-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_untied [hPre_finite_untied : Cert.Pre_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_untied [hPre_finite_untied : Cert.Pre_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_untied [hKernelIdeal : Cert.KernelIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_untied [hReferenceIdeal : Cert.ReferenceIdeal.Facts] [hPre_finite_untied : Cert.Pre_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sqrt_d" .f32 0x3D13CD3A#32 (((Real.sqrt 768)⁻¹ : ℝ) : EReal)

def algebraic_KernelIdeal_ReferenceIdeal_pre_finite_untied [hKernelIdeal : Cert.KernelIdeal.Facts] [hReferenceIdeal : Cert.ReferenceIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_untied : Cert.Pre_finite_untied.Facts),
    quiescent_Kernel (hKernel := hKernel)
    ∧ quiescent_KernelIdeal (hKernelIdeal := hKernelIdeal)
    ∧ quiescent_KernelIdeal_pre_finite_untied (hKernelIdeal := hKernelIdeal) (hPre_finite_untied := hPre_finite_untied)
    ∧ quiescent_ReferenceIdeal (hReferenceIdeal := hReferenceIdeal)
    ∧ quiescent_ReferenceIdeal_pre_finite_untied (hReferenceIdeal := hReferenceIdeal) (hPre_finite_untied := hPre_finite_untied)
    ∧ preserves_Kernel_KernelIdeal
    ∧ algebraic_KernelIdeal_ReferenceIdeal_pre_finite_untied (hKernelIdeal := hKernelIdeal) (hReferenceIdeal := hReferenceIdeal) (hPre_finite_untied := hPre_finite_untied)
-- ==== Pre_finite_untied.lean ====
abbrev S2x8192x768 : Shape := ⟨3, ![2, 8192, 768]⟩
abbrev S2x8192 : Shape := ⟨2, ![2, 8192]⟩
abbrev S2x128x64x768 : Shape := ⟨4, ![2, 128, 64, 768]⟩
abbrev S_ : Shape := ⟨0, ![]⟩
abbrev S2x128x768 : Shape := ⟨3, ![2, 128, 768]⟩
abbrev S2x8192x128 : Shape := ⟨3, ![2, 8192, 128]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S1x8192x128 : Shape := ⟨3, ![1, 8192, 128]⟩
abbrev S2x8192x17 : Shape := ⟨3, ![2, 8192, 17]⟩
abbrev S1x8192x1 : Shape := ⟨3, ![1, 8192, 1]⟩
abbrev S2x8192x16 : Shape := ⟨3, ![2, 8192, 16]⟩

class Facts : Prop where
  shapeCasts_S2x8192x768_S2x128x64x768 : S2x8192x768.ShapeCasts S2x128x64x768
  reducesTo_S2x128x64x768_S2x128x768_d2 : S2x128x64x768.ReducesTo [2] S2x128x768
  h_S_ : 0 < S_.numel
  bcast_S_S2x128x768 : S_.BroadcastsInDim S2x128x768 (![] : Fin 0 → Fin S2x128x768.rank)
  bcast_S_S8192 : S_.BroadcastsInDim S8192 (![] : Fin 0 → Fin S8192.rank)
  bcast_S8192_S8192x1_0 : S8192.BroadcastsInDim S8192x1 (![0] : Fin 1 → Fin S8192x1.rank)
  bcast_S128_S1x128_1 : S128.BroadcastsInDim S1x128 (![1] : Fin 1 → Fin S1x128.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  bcast_S8192x128_S1x8192x128_1_2 : S8192x128.BroadcastsInDim S1x8192x128 (![1, 2] : Fin 2 → Fin S1x8192x128.rank)
  bcast_S1x8192x128_S2x8192x128_0_1_2 : S1x8192x128.BroadcastsInDim S2x8192x128 (![0, 1, 2] : Fin 3 → Fin S2x8192x128.rank)
  bcast_S_S2x8192x128 : S_.BroadcastsInDim S2x8192x128 (![] : Fin 0 → Fin S2x8192x128.rank)
  sliceFits_S2x8192x128_S2x8192x17 : S2x8192x128.Slices (fun _ => 0) S2x8192x17
  bcast_S8192_S1x8192x1_1 : S8192.BroadcastsInDim S1x8192x1 (![1] : Fin 1 → Fin S1x8192x1.rank)
  slices_S2x8192x17_S2x8192x16_0_0_0 : S2x8192x17.Slices ![0, 0, 0] S2x8192x16
  slices_S2x8192x17_S2x8192x16_0_0_1 : S2x8192x17.Slices ![0, 0, 1] S2x8192x16
  bcast_S1x8192x1_S2x8192x16_0_1_2 : S1x8192x1.BroadcastsInDim S2x8192x16 (![0, 1, 2] : Fin 3 → Fin S2x8192x16.rank)
  bcast_S_S2x8192x768 : S_.BroadcastsInDim S2x8192x768 (![] : Fin 0 → Fin S2x8192x768.rank)
  bcast_S_S2x8192 : S_.BroadcastsInDim S2x8192 (![] : Fin 0 → Fin S2x8192.rank)
  dot_S2x8192x768_S2x128x768_S2x8192x128_2_2_1_1_0_0_wf : DotDims.WF S2x8192x768 S2x128x768 S2x8192x128 [2] [2] [1] [1] [0] [0]

variable [Facts]

def dot_S2x8192x768_S2x128x768_S2x8192x128_2_2_1_1_0_0 : DotDims S2x8192x768 S2x128x768 S2x8192x128 where
  lhsContracting := [2]
  rhsContracting := [2]
  lhsNonContracting := [1]
  rhsNonContracting := [1]
  lhsBatch := [0]
  rhsBatch := [0]
  wf := dot_S2x8192x768_S2x128x768_S2x8192x128_2_2_1_1_0_0_wf
def fn_where {F : FTy → Type} [FloatOps F] (arg0 : IVec S8192 1) (arg1 : IVec S8192 32) (arg2 : IVec S8192 32) : IVec S8192 32 :=
  let v0 : IVec S8192 32 := select arg0 arg1 arg2
  v0

def fn_floor_divide {F : FTy → Type} [FloatOps F] (arg0 : IVec S8192 32) (arg1 : IVec S_ 32) : IVec S8192 32 :=
  let v0 : IVec S_ 32 := id arg1
  let v1 : IVec S8192 32 := broadcastInDim S8192 ![] bcast_S_S8192 v0
  let v2 : IVec S8192 32 := Host.divsi arg0 v1
  let v3 : IVec S8192 32 := signi arg0
  let v4 : IVec S_ 32 := signi v0
  let v5 : IVec S8192 32 := broadcastInDim S8192 ![] bcast_S_S8192 v4
  let v6 : IVec S8192 1 := cmpi .ne v3 v5
  let v7 : IVec S8192 32 := broadcastInDim S8192 ![] bcast_S_S8192 v0
  let v8 : IVec S8192 32 := Host.remsi arg0 v7
  let c : IVec S_ 32 := constantI S_ 32 0#32
  let v9 : IVec S8192 32 := broadcastInDim S8192 ![] bcast_S_S8192 c
  let v10 : IVec S8192 1 := cmpi .ne v8 v9
  let v11 : IVec S8192 1 := andi v6 v10
  let c_0 : IVec S_ 32 := constantI S_ 32 1#32
  let v12 : IVec S8192 32 := broadcastInDim S8192 ![] bcast_S_S8192 c_0
  let v13 : IVec S8192 32 := subi v2 v12
  let v14 : IVec S8192 32 := fn_where (F := F) v11 v13 v2
  v14

def fn_where_0 {F : FTy → Type} [FloatOps F] (arg0 : IVec S1x8192x128 1) (arg1 : FVec F S_ .f32) (arg2 : FVec F S2x8192x128 .f32) : FVec F S2x8192x128 .f32 :=
  let v0 : FVec F S_ .f32 := id arg1
  let v1 : IVec S2x8192x128 1 := broadcastInDim S2x8192x128 ![0, 1, 2] bcast_S1x8192x128_S2x8192x128_0_1_2 arg0
  let v2 : FVec F S2x8192x128 .f32 := broadcastInDim S2x8192x128 ![] bcast_S_S2x8192x128 v0
  let v3 : FVec F S2x8192x128 .f32 := select v1 v2 arg2
  v3

def fn_part2 {F : FTy → Type} [FloatOps F] (main_v22 : IVec S2x8192x16 1) (main_v25 : IVec S2x8192x768 1) (main_v28 : IVec S2x8192x768 1) (main_v31 : IVec S2x8192x768 1) (main_v34 : IVec S2x8192 1) (main_v35 : FVec F S2x8192 .f32) (main_cst_7 : FVec F S_ .f32) : IVec S2x8192x768 1 × IVec S2x8192x768 1 × IVec S2x8192x768 1 × IVec S2x8192 1 × IVec S2x8192 1 × IVec S2x8192x16 1 :=
  let main_v36 : FVec F S2x8192 .f32 := broadcastInDim S2x8192 ![] bcast_S_S2x8192 main_cst_7
  let main_v37 : IVec S2x8192 1 := cmpf .olt main_v35 main_v36
  (main_v25, main_v28, main_v31, main_v34, main_v37, main_v22)

def fn_part1 {F : FTy → Type} [FloatOps F] (main_arg0 : FVec F S2x8192x768 .f32) (main_arg1 : FVec F S2x8192x768 .f32) (main_arg2 : FVec F S2x8192x768 .f32) (main_arg3 : FVec F S2x8192 .f32) (main_arg4 : FVec F S2x8192 .f32) (main_values : FVec F S2x8192x17 .f32) (main_v16 : IVec S8192 1) : IVec S2x8192x768 1 × IVec S2x8192x768 1 × IVec S2x8192x768 1 × IVec S2x8192 1 × IVec S2x8192 1 × IVec S2x8192x16 1 :=
  let main_v17 : IVec S1x8192x1 1 := broadcastInDim S1x8192x1 ![1] bcast_S8192_S1x8192x1_1 main_v16
  let main_v18 : FVec F S2x8192x16 .f32 := (extractStridedSlice S2x8192x16 ![0, 0, 0] · slices_S2x8192x17_S2x8192x16_0_0_0) main_values
  let main_v19 : FVec F S2x8192x16 .f32 := (extractStridedSlice S2x8192x16 ![0, 0, 1] · slices_S2x8192x17_S2x8192x16_0_0_1) main_values
  let main_v20 : IVec S2x8192x16 1 := cmpf .ogt main_v18 main_v19
  let main_v21 : IVec S2x8192x16 1 := broadcastInDim S2x8192x16 ![0, 1, 2] bcast_S1x8192x1_S2x8192x16_0_1_2 main_v17
  let main_v22 : IVec S2x8192x16 1 := ori main_v21 main_v20
  let main_v23 : FVec F S2x8192x768 .f32 := Host.absf main_arg0
  let main_cst_3 : FVec F S_ .f32 := constant S_ .f32 0x7F800000#32
  let main_v24 : FVec F S2x8192x768 .f32 := broadcastInDim S2x8192x768 ![] bcast_S_S2x8192x768 main_cst_3
  let main_v25 : IVec S2x8192x768 1 := cmpf .olt main_v23 main_v24
  let main_v26 : FVec F S2x8192x768 .f32 := Host.absf main_arg1
  let main_cst_4 : FVec F S_ .f32 := constant S_ .f32 0x7F800000#32
  let main_v27 : FVec F S2x8192x768 .f32 := broadcastInDim S2x8192x768 ![] bcast_S_S2x8192x768 main_cst_4
  let main_v28 : IVec S2x8192x768 1 := cmpf .olt main_v26 main_v27
  let main_v29 : FVec F S2x8192x768 .f32 := Host.absf main_arg2
  let main_cst_5 : FVec F S_ .f32 := constant S_ .f32 0x7F800000#32
  let main_v30 : FVec F S2x8192x768 .f32 := broadcastInDim S2x8192x768 ![] bcast_S_S2x8192x768 main_cst_5
  let main_v31 : IVec S2x8192x768 1 := cmpf .olt main_v29 main_v30
  let main_v32 : FVec F S2x8192 .f32 := Host.absf main_arg3
  let main_cst_6 : FVec F S_ .f32 := constant S_ .f32 0x7F800000#32
  let main_v33 : FVec F S2x8192 .f32 := broadcastInDim S2x8192 ![] bcast_S_S2x8192 main_cst_6
  let main_v34 : IVec S2x8192 1 := cmpf .olt main_v32 main_v33
  let main_v35 : FVec F S2x8192 .f32 := Host.absf main_arg4
  let main_cst_7 : FVec F S_ .f32 := constant S_ .f32 0x7F800000#32
  fn_part2 (F := F) main_v22 main_v25 main_v28 main_v31 main_v34 main_v35 main_cst_7

def fn {F : FTy → Type} [FloatOps F] (main_arg0 : FVec F S2x8192x768 .f32) (main_arg1 : FVec F S2x8192x768 .f32) (main_arg2 : FVec F S2x8192x768 .f32) (main_arg3 : FVec F S2x8192 .f32) (main_arg4 : FVec F S2x8192 .f32) (main_arg5 : FVec F S2x8192 .f32) : IVec S2x8192x768 1 × IVec S2x8192x768 1 × IVec S2x8192x768 1 × IVec S2x8192 1 × IVec S2x8192 1 × IVec S2x8192x16 1 :=
  let main_v0 : FVec F S2x128x64x768 .f32 := shapeCast S2x128x64x768 main_arg1 shapeCasts_S2x8192x768_S2x128x64x768
  let main_cst : FVec F S_ .f32 := constant S_ .f32 0x00000000#32
  let main_v1 : FVec F S2x128x768 .f32 := (fun x v => Host.reduceAdd x v reducesTo_S2x128x64x768_S2x128x768_d2 h_S_) main_v0 main_cst
  let main_cst_0 : FVec F S_ .f32 := constant S_ .f32 0x42800000#32
  let main_v2 : FVec F S2x128x768 .f32 := broadcastInDim S2x128x768 ![] bcast_S_S2x128x768 main_cst_0
  let main_v3 : FVec F S2x128x768 .f32 := Host.divf main_v1 main_v2
  let main_v4 : FVec F S2x8192x128 .f32 := (fun l r => Host.dotGeneral dot_S2x8192x768_S2x128x768_S2x8192x128_2_2_1_1_0_0 none l r) main_arg0 main_v3
  let main_v5 : IVec S8192 32 := iotaInDim S8192 32 0
  let main_c : IVec S_ 32 := constantI S_ 32 64#32
  let main_v6 : IVec S8192 32 := fn_floor_divide (F := F) main_v5 main_c
  let main_v7 : IVec S8192x1 32 := broadcastInDim S8192x1 ![0] bcast_S8192_S8192x1_0 main_v6
  let main_v8 : IVec S128 32 := iotaInDim S128 32 0
  let main_v9 : IVec S1x128 32 := broadcastInDim S1x128 ![1] bcast_S128_S1x128_1 main_v8
  let main_v10 : IVec S8192x128 32 := broadcastInDim S8192x128 ![0, 1] bcast_S8192x1_S8192x128_0_1 main_v7
  let main_v11 : IVec S8192x128 32 := broadcastInDim S8192x128 ![0, 1] bcast_S1x128_S8192x128_0_1 main_v9
  let main_v12 : IVec S8192x128 1 := cmpi .slt main_v10 main_v11
  let main_v13 : IVec S1x8192x128 1 := broadcastInDim S1x8192x128 ![1, 2] bcast_S8192x128_S1x8192x128_1_2 main_v12
  let main_cst_1 : FVec F S_ .f32 := constant S_ .f32 0xFF800000#32
  let main_v14 : FVec F S2x8192x128 .f32 := fn_where_0 (F := F) main_v13 main_cst_1 main_v4
  let main_values : FVec F S2x8192x17 .f32 := (fun x => (Host.topK S2x8192x17 2 (FloatOps.cmpfTotal .gt) x sliceFits_S2x8192x128_S2x8192x17).1) main_v14
  let main_indices : IVec S2x8192x17 32 := (fun x => (Host.topK S2x8192x17 2 (FloatOps.cmpfTotal .gt) x sliceFits_S2x8192x128_S2x8192x17).2) main_v14
  let main_c_2 : IVec S_ 32 := constantI S_ 32 16#32
  let main_v15 : IVec S8192 32 := broadcastInDim S8192 ![] bcast_S_S8192 main_c_2
  let main_v16 : IVec S8192 1 := cmpi .slt main_v6 main_v15
  fn_part1 (F := F) main_arg0 main_arg1 main_arg2 main_arg3 main_arg4 main_values main_v16
-- ==== Kernel.lean ====
abbrev S2x8192x768 : Shape := ⟨3, ![2, 8192, 768]⟩
abbrev S2x8192 : Shape := ⟨2, ![2, 8192]⟩
abbrev S2x4x1x2048 : Shape := ⟨4, ![2, 4, 1, 2048]⟩
abbrev S1x1024x768 : Shape := ⟨3, ![1, 1024, 768]⟩
abbrev S1x2048x768 : Shape := ⟨3, ![1, 2048, 768]⟩
abbrev S1x1x1x2048 : Shape := ⟨4, ![1, 1, 1, 2048]⟩
abbrev S2x128x768 : Shape := ⟨3, ![2, 128, 768]⟩
abbrev S1024x768 : Shape := ⟨2, ![1024, 768]⟩
abbrev S16x64x768 : Shape := ⟨3, ![16, 64, 768]⟩
abbrev S16x768 : Shape := ⟨2, ![16, 768]⟩
abbrev S1x16x768 : Shape := ⟨3, ![1, 16, 768]⟩
abbrev S2048x768 : Shape := ⟨2, ![2048, 768]⟩
abbrev S1x128x768 : Shape := ⟨3, ![1, 128, 768]⟩
abbrev S128x768 : Shape := ⟨2, ![128, 768]⟩
abbrev S1x2048 : Shape := ⟨2, ![1, 2048]⟩
abbrev S128x2048 : Shape := ⟨2, ![128, 2048]⟩
abbrev S2048 : Shape := ⟨1, ![2048]⟩
abbrev S32x2048 : Shape := ⟨2, ![32, 2048]⟩
abbrev S96x2048 : Shape := ⟨2, ![96, 2048]⟩
abbrev S64x2048 : Shape := ⟨2, ![64, 2048]⟩

abbrev nBuf : Space → Nat
  | .hbm => 9
  | .vmem => 14
  | .smem => 0
  | _ => 0

abbrev bufTy : (tb : Table) → Fin (tcTables nBuf tb) → BufTy
  | .hbm, ⟨0, _⟩ => ⟨S2x8192x768, .f32⟩
  | .hbm, ⟨1, _⟩ => ⟨S2x8192x768, .f32⟩
  | .hbm, ⟨2, _⟩ => ⟨S2x8192x768, .f32⟩
  | .hbm, ⟨3, _⟩ => ⟨S2x8192, .f32⟩
  | .hbm, ⟨4, _⟩ => ⟨S2x8192, .f32⟩
  | .hbm, ⟨5, _⟩ => ⟨S2x8192, .f32⟩
  | .hbm, ⟨6, _⟩ => ⟨S2x4x1x2048, .f32⟩
  | .hbm, ⟨7, _⟩ => ⟨S2x4x1x2048, .f32⟩
  | .hbm, ⟨8, _⟩ => ⟨S2x8192x768, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .f32⟩
  | .local _ .vmem, ⟨3, _⟩ => ⟨S1x1024x768, .f32⟩
  | .local _ .vmem, ⟨4, _⟩ => ⟨S1x2048x768, .f32⟩
  | .local _ .vmem, ⟨5, _⟩ => ⟨S1x2048x768, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048x768, .f32⟩
  | .local _ .vmem, ⟨11, _⟩ => ⟨S1x2048x768, .f32⟩
  | .local _ .vmem, ⟨12, _⟩ => ⟨S2x128x768, .f32⟩
  | .local _ .vmem, ⟨13, _⟩ => ⟨S2x128x768, .bf16⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 12], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v24 : Index := Scalar.indexCast arg0
  let arg1 : BitVec 32 := BitVec.ofNat 32 (i 1).val
  let c16_i32 : BitVec 32 := 16#32
  let v23 : BitVec 32 := Scalar.muli arg1 c16_i32
  let v25 : Index := Scalar.indexCast v23
  let c0_9 : Index := 0#32
  ![v24.toNat, v25.toNat, 0]
def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let v17 : Index := Scalar.indexCast arg0
  let c0_7 : Index := 0#32
  let c0_8 : Index := 0#32
  ![v17.toNat, 0, 0]
def k0_cond3 (i : grid0.Coords) : BitVec 1 :=
  let arg1 : BitVec 32 := BitVec.ofNat 32 (i 1).val
  let c9_i32 : BitVec 32 := 9#32
  let v6 : BitVec 1 := Scalar.cmpi .eq arg1 c9_i32
  let v7 : BitVec 32 := Scalar.extui v6
  let c0_i32_2 : BitVec 32 := 0#32
  let v8 : BitVec 1 := Scalar.cmpi .ne v7 c0_i32_2
  v8

def k0_off3 (i : grid0.Coords) : Fin 3 → Nat :=
  let arg0 : BitVec 32 := BitVec.ofNat 32 (i 0).val
  let v17 : Index := Scalar.indexCast arg0
  let c0_7 : Index := 0#32
  let c0_8 : Index := 0#32
  ![v17.toNat, 0, 0]
def k0_cond4 (i : grid0.Coords) : BitVec 1 :=
  let arg1 : BitVec 32 := BitVec.ofNat 32 (i 1).val
  let c10_i32 : BitVec 32 := 10#32
  let v9 : BitVec 1 := Scalar.cmpi .eq arg1 c10_i32
  let v10 : BitVec 32 := Scalar.extui v9
  let c0_i32_3 : BitVec 32 := 0#32
  let v11 : BitVec 1 := Scalar.cmpi .ne v10 c0_i32_3
  v11

def k0_off4 (i : grid0.Coords) : Fin 3 → Nat :=
  let arg0 : BitVec 32 := BitVec.ofNat 32 (i 0).val
  let v17 : Index := Scalar.indexCast arg0
  let c0_7 : Index := 0#32
  let c0_8 : Index := 0#32
  ![v17.toNat, 0, 0]
def k0_cond5 (i : grid0.Coords) : BitVec 1 :=
  let arg1 : BitVec 32 := BitVec.ofNat 32 (i 1).val
  let c11_i32 : BitVec 32 := 11#32
  let v12 : BitVec 1 := Scalar.cmpi .eq arg1 c11_i32
  let v13 : BitVec 32 := Scalar.extui v12
  let c0_i32_4 : BitVec 32 := 0#32
  let v14 : BitVec 1 := Scalar.cmpi .ne v13 c0_i32_4
  v14

def k0_off5 (i : grid0.Coords) : Fin 3 → Nat :=
  let arg0 : BitVec 32 := BitVec.ofNat 32 (i 0).val
  let v17 : Index := Scalar.indexCast arg0
  let c0_7 : Index := 0#32
  let c0_8 : Index := 0#32
  ![v17.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c7_i32 : BitVec 32 := 7#32
  let v1 : BitVec 32 := Scalar.select v0 arg1 c7_i32
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c7_i32 : BitVec 32 := 7#32
  let v1 : BitVec 32 := Scalar.select v0 arg1 c7_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let c0_i32 : BitVec 32 := 0#32
  let v2 : BitVec 32 := Scalar.select v0 c0_i32 v1
  let c0_i32_1 : BitVec 32 := 0#32
  let c0_i32_2 : BitVec 32 := 0#32
  ![arg0.toNat, v2.toNat, c0_i32_1.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let c0_i32 : BitVec 32 := 0#32
  let v2 : BitVec 32 := Scalar.select v0 c0_i32 v1
  let c0_i32_1 : BitVec 32 := 0#32
  let c0_i32_2 : BitVec 32 := 0#32
  ![arg0.toNat, v2.toNat, c0_i32_1.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "inv_sqrt_d" => some (((Real.sqrt 768)⁻¹ : ℝ) : EReal)
  | _ => none
-- ==== ReferenceIdeal.lean ====
abbrev S2x8192x768 : Shape := ⟨3, ![2, 8192, 768]⟩
abbrev S2x8192 : Shape := ⟨2, ![2, 8192]⟩
abbrev S2x128x64x768 : Shape := ⟨4, ![2, 128, 64, 768]⟩
abbrev S_ : Shape := ⟨0, ![]⟩
abbrev S2x128x768 : Shape := ⟨3, ![2, 128, 768]⟩
abbrev S2x8192x128 : Shape := ⟨3, ![2, 8192, 128]⟩
abbrev S2x8192x1 : Shape := ⟨3, ![2, 8192, 1]⟩
abbrev S8192 : Shape := ⟨1, ![8192]⟩
abbrev S1x8192x1 : Shape := ⟨3, ![1, 8192, 1]⟩
abbrev S128 : Shape := ⟨1, ![128]⟩
abbrev S1x1x128 : Shape := ⟨3, ![1, 1, 128]⟩
abbrev S1x8192x128 : Shape := ⟨3, ![1, 8192, 128]⟩
abbrev S2x8192x16 : Shape := ⟨3, ![2, 8192, 16]⟩
abbrev S2x8192x16x1 : Shape := ⟨4, ![2, 8192, 16, 1]⟩
abbrev S2x8192x16x768 : Shape := ⟨4, ![2, 8192, 16, 768]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S2x8192x768, .f32⟩
  | .hbm, ⟨2, _⟩ => ⟨S2x8192x768, .f32⟩
  | .hbm, ⟨3, _⟩ => ⟨S2x8192, .f32⟩
  | .hbm, ⟨4, _⟩ => ⟨S2x8192, .f32⟩
  | .hbm, ⟨5, _⟩ => ⟨S2x8192, .f32⟩
  | .hbm, ⟨6, _⟩ => ⟨S2x128x64x768, .f32⟩
  | .hbm, ⟨7, _⟩ => ⟨S_, .f32⟩
  | .hbm, ⟨8, _⟩ => ⟨S2x128x768, .f32⟩
  | .hbm, ⟨9, _⟩ => ⟨S_, .f32⟩
  | .hbm, ⟨10, _⟩ => ⟨S2x128x768, .f32⟩
  | .hbm, ⟨11, _⟩ => ⟨S2x128x768, .f32⟩
  | .hbm, ⟨12, _⟩ => ⟨S2x128x64x768, .f32⟩
  | .hbm, ⟨13, _⟩ => ⟨S_, .f32⟩
  | .hbm, ⟨14, _⟩ => ⟨S2x128x768, .f32⟩
  | .hbm, ⟨15, _⟩ => ⟨S_, .f32⟩
  | .hbm, ⟨16, _⟩ => ⟨S2x128x768, .f32⟩
  | .hbm, ⟨17, _⟩ => ⟨S2x128x768, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x8192x128, .f32⟩
  | .hbm, ⟨23, _⟩ => ⟨S2x8192x128, .f32⟩
  | .hbm, ⟨24, _⟩ => ⟨S2x8192x128, .f32⟩
  | .hbm, ⟨25, _⟩ => ⟨S_, .f32⟩
  | .hbm, ⟨26, _⟩ => ⟨S2x8192, .f32⟩
  | .hbm, ⟨27, _⟩ => ⟨S_, .f32⟩
  | .hbm, ⟨28, _⟩ => ⟨S2x8192, .f32⟩
  | .hbm, ⟨29, _⟩ => ⟨S2x8192, .f32⟩
  | .hbm, ⟨30, _⟩ => ⟨S2x8192x1, .f32⟩
  | .hbm, ⟨31, _⟩ => ⟨S2x8192x128, .f32⟩
  | .hbm, ⟨32, _⟩ => ⟨S2x8192x128, .f32⟩
  | .hbm, ⟨33, _⟩ => ⟨S2x8192x128, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S2x8192x128, .f32⟩
  | .hbm, ⟨38, _⟩ => ⟨S2x8192x128, .f32⟩
  | .hbm, ⟨39, _⟩ => ⟨S2x8192x768, .f32⟩
  | .hbm, ⟨40, _⟩ => ⟨S2x8192x1, .f32⟩
  | .hbm, ⟨41, _⟩ => ⟨S2x8192x768, .f32⟩
  | .hbm, ⟨42, _⟩ => ⟨S2x8192x768, .f32⟩
  | .hbm, ⟨43, _⟩ => ⟨S2x8192x128, .f32⟩
  | .hbm, ⟨44, _⟩ => ⟨S2x8192x128, .f32⟩
  | .hbm, ⟨45, _⟩ => ⟨S2x8192x128, .f32⟩
  | .hbm, ⟨46, _⟩ => ⟨S8192, .i32⟩
  | .hbm, ⟨47, _⟩ => ⟨S_, .i32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S8192, .i32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S1x8192x1, .i32⟩
  | .hbm, ⟨66, _⟩ => ⟨S128, .i32⟩
  | .hbm, ⟨67, _⟩ => ⟨S1x1x128, .i32⟩
  | .hbm, ⟨68, _⟩ => ⟨S1x8192x128, .i32⟩
  | .hbm, ⟨69, _⟩ => ⟨S1x8192x128, .i32⟩
  | .hbm, ⟨70, _⟩ => ⟨S1x8192x128, .i1⟩
  | .hbm, ⟨71, _⟩ => ⟨S2x8192x128, .i1⟩
  | .hbm, ⟨72, _⟩ => ⟨S_, .f32⟩
  | .hbm, ⟨73, _⟩ => ⟨S_, .f32⟩
  | .hbm, ⟨74, _⟩ => ⟨S2x8192x128, .f32⟩
  | .hbm, ⟨75, _⟩ => ⟨S2x8192x128, .f32⟩
  | .hbm, ⟨76, _⟩ => ⟨S_, .f32⟩
  | .hbm, ⟨77, _⟩ => ⟨S2x8192, .f32⟩
  | .hbm, ⟨78, _⟩ => ⟨S_, .f32⟩
  | .hbm, ⟨79, _⟩ => ⟨S2x8192, .f32⟩
  | .hbm, ⟨80, _⟩ => ⟨S2x8192, .f32⟩
  | .hbm, ⟨81, _⟩ => ⟨S2x8192x1, .f32⟩
  | .hbm, ⟨82, _⟩ => ⟨S2x8192x128, .f32⟩
  | .hbm, ⟨83, _⟩ => ⟨S2x8192x128, .f32⟩
  | .hbm, ⟨84, _⟩ => ⟨S2x8192x128, .f32⟩
  | .hbm, ⟨85, _⟩ => ⟨S_, .f32⟩
  | .hbm, ⟨86, _⟩ => ⟨S2x8192, .f32⟩
  | .hbm, ⟨87, _⟩ => ⟨S2x8192x1, .f32⟩
  | .hbm, ⟨88, _⟩ => ⟨S2x8192x128, .f32⟩
  | .hbm, ⟨89, _⟩ => ⟨S2x8192x128, .f32⟩
  | .hbm, ⟨90, _⟩ => ⟨S2x8192x16, .f32⟩
  | .hbm, ⟨91, _⟩ => ⟨S2x8192x16, .i32⟩
  | .hbm, ⟨92, _⟩ => ⟨S_, .i32⟩
  | .hbm, ⟨93, _⟩ => ⟨S2x8192x16, .i32⟩
  | .hbm, ⟨94, _⟩ => ⟨S2x8192x16, .i1⟩
  | .hbm, ⟨95, _⟩ => ⟨S_, .i32⟩
  | .hbm, ⟨96, _⟩ => ⟨S2x8192x16, .i32⟩
  | .hbm, ⟨97, _⟩ => ⟨S2x8192x16, .i32⟩
  | .hbm, ⟨98, _⟩ => ⟨S2x8192x16, .i32⟩
  | .hbm, ⟨99, _⟩ => ⟨S2x8192x16x1, .i32⟩
  | .hbm, ⟨100, _⟩ => ⟨S2x8192x16x768, .f32⟩
  | .hbm, ⟨101, _⟩ => ⟨S2x8192x16x1, .f32⟩
  | .hbm, ⟨102, _⟩ => ⟨S2x8192x16x768, .f32⟩
  | .hbm, ⟨103, _⟩ => ⟨S2x8192x16x768, .f32⟩
  | .hbm, ⟨104, _⟩ => ⟨S_, .f32⟩
  | .hbm, ⟨105, _⟩ => ⟨S2x8192x768, .f32⟩
  | .hbm, ⟨106, _⟩ => ⟨S2x8192x1, .f32⟩
  | .hbm, ⟨107, _⟩ => ⟨S2x8192x768, .f32⟩
  | .hbm, ⟨108, _⟩ => ⟨S2x8192x768, .f32⟩
  | .hbm, ⟨109, _⟩ => ⟨S_, .f32⟩
  | .hbm, ⟨110, _⟩ => ⟨S2x8192x768, .f32⟩
  | .hbm, ⟨111, _⟩ => ⟨S2x8192x768, .f32⟩
  | .hbm, ⟨112, _⟩ => ⟨S2x8192x768, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_v40 : Ref sig .tc := ⟨.hbm, 75, rfl⟩
abbrev main_cst_9 : Ref sig .tc := ⟨.hbm, 76, rfl⟩
abbrev main_v41 : Ref sig .tc := ⟨.hbm, 77, rfl⟩
abbrev main_cst_10 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_11 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_values : Ref sig .tc := ⟨.hbm, 90, rfl⟩
abbrev main_indices : Ref sig .tc := ⟨.hbm, 91, rfl⟩
abbrev main_c_12 : Ref sig .tc := ⟨.hbm, 92, rfl⟩
abbrev main_v52 : Ref sig .tc := ⟨.hbm, 93, rfl⟩
abbrev main_v53 : Ref sig .tc := ⟨.hbm, 94, rfl⟩
abbrev main_c_13 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_14 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_15 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩

abbrev nD : Nat := 1
abbrev τ : Topo := Topo.v7x

variable {F : FTy → Type} [FloatOps F]
-- ==== Proof.Tiles.lean ====
/-
  What one grid point of the kernel stores, as functions of what it loads.

  A point of the first eight steps of a batch entry stores `k0_pay1` of its keys block and `k0_pay2` of its values block
  into the two carried buffers. A point of the last four steps stores one tile of the result; `tile0` to `tile3` are the
  four tiles' values, each the composition of the kernel's own stored expressions, over the loaded queries `q`, the two
  carried rows `ck` and `cv`, and the two gate rows `gc` and `gs`.
-/
module

public import proofs.«01_k».proof.Proof.Gen.KernelIdeal.Skeleton
public import proofs.«01_k».proof.Proof.Gen.KernelIdeal

@[expose] public section

noncomputable section

namespace Cert.KernelIdeal.Own

open Idealize.ShloMosaic Idealize.ShloMosaic.TcCoe Cert.KernelIdeal Cert.KernelIdeal.Gen

variable {F : FTy → Type} [FloatOps F] [Named F]

/-- The value that overwrites an entry once it has been the greatest of its column: −1. -/
abbrev spent : F .f32 := Scalar.ofBits .f32 0xBF800000#32

/-- The number of every row, for the first tile's 32 rows. -/
abbrev rows32 : IVec S32x2048 32 := iota .tc S32x2048 32 [0] iota_S32x2048_d0_w32
/-- The number of every row, for the second tile's 64 rows. -/
abbrev rows64 : IVec S64x2048 32 := iota .tc S64x2048 32 [0] iota_S64x2048_d0_w32
/-- The number of every row, for the third tile's 96 rows. -/
abbrev rows96 : IVec S96x2048 32 := iota .tc S96x2048 32 [0] iota_S96x2048_d0_w32
/-- The number of every row, for the fourth tile's 128 rows. -/
abbrev rows128 : IVec S128x2048 32 := iota .tc S128x2048 32 [0] iota_S128x2048_d0_w32

/-- The masked exponentials of the first tile. -/
def masked0 (q : Vec F S1x2048x768 .f32) (ck : Vec F S1x128x768 .f32) : FVec F S32x2048 .f32 :=
  k0_pay16 (k0_pay12 q ck) rows32 k0_pay13 64#32 k0_pay14 k0_pay15
/-- The masked exponentials of the second tile. -/
def masked1 (q : Vec F S1x2048x768 .f32) (ck : Vec F S1x128x768 .f32) : FVec F S64x2048 .f32 :=
  k0_pay31 (k0_pay27 q ck) rows64 k0_pay28 64#32 k0_pay29 k0_pay30
/-- The masked exponentials of the third tile. -/
def masked2 (q : Vec F S1x2048x768 .f32) (ck : Vec F S1x128x768 .f32) : FVec F S96x2048 .f32 :=
  k0_pay46 (k0_pay42 q ck) rows96 k0_pay43 64#32 k0_pay44 k0_pay45
/-- The masked exponentials of the fourth tile. -/
def masked3 (q : Vec F S1x2048x768 .f32) (ck : Vec F S1x128x768 .f32) : FVec F S128x2048 .f32 :=
  k0_pay61 (k0_pay55 q ck) rows128 k0_pay57 k0_pay58 k0_pay59 k0_pay60

/-- The first tile of 2048 rows of the result. -/
def tile0 (q : Vec F S1x2048x768 .f32) (ck : Vec F S1x128x768 .f32) (cv : Vec F S1x128x768 .bf16)
    (gc gs : Vec F S1x1x1x2048 .f32) : FVec F S1x2048x768 .f32 :=
  let v95 := k0_pay18 (k0_pay12 q ck) rows32 k0_pay13 64#32 k0_pay14 k0_pay15
  let v96 := k0_pay19 (k0_pay12 q ck) rows32 k0_pay13 64#32 k0_pay14 k0_pay15
  k0_pay3 (k0_pay7 cv) (k0_pay8 gc) (k0_pay9 gs) (k0_pay10 q ck) (k0_pay11 q ck) (k0_pay12 q ck) (masked0 q ck)
    (k0_pay17 (k0_pay12 q ck) rows32 k0_pay13 64#32 k0_pay14 k0_pay15) (k0_pay20 v95 v96) (k0_pay21 v95 v96) spent

/-- The second tile of 2048 rows of the result. -/
def tile1 (q : Vec F S1x2048x768 .f32) (ck : Vec F S1x128x768 .f32) (cv : Vec F S1x128x768 .bf16)
    (gc gs : Vec F S1x1x1x2048 .f32) : FVec F S1x2048x768 .f32 :=
  let v95 := k0_pay33 (k0_pay27 q ck) rows64 k0_pay28 64#32 k0_pay29 k0_pay30
  let v96 := k0_pay34 (k0_pay27 q ck) rows64 k0_pay28 64#32 k0_pay29 k0_pay30
  k0_pay4 (k0_pay22 cv) (k0_pay23 gc) (k0_pay24 gs) (k0_pay25 q ck) (k0_pay26 q ck) (k0_pay27 q ck) (masked1 q ck)
    (k0_pay32 (k0_pay27 q ck) rows64 k0_pay28 64#32 k0_pay29 k0_pay30) (k0_pay35 v95 v96) (k0_pay36 v95 v96) spent

/-- The third tile of 2048 rows of the result. -/
def tile2 (q : Vec F S1x2048x768 .f32) (ck : Vec F S1x128x768 .f32) (cv : Vec F S1x128x768 .bf16)
    (gc gs : Vec F S1x1x1x2048 .f32) : FVec F S1x2048x768 .f32 :=
  let v95 := k0_pay48 (k0_pay42 q ck) rows96 k0_pay43 64#32 k0_pay44 k0_pay45
  let v96 := k0_pay49 (k0_pay42 q ck) rows96 k0_pay43 64#32 k0_pay44 k0_pay45
  k0_pay5 (k0_pay37 cv) (k0_pay38 gc) (k0_pay39 gs) (k0_pay40 q ck) (k0_pay41 q ck) (k0_pay42 q ck) (masked2 q ck)
    (k0_pay47 (k0_pay42 q ck) rows96 k0_pay43 64#32 k0_pay44 k0_pay45) (k0_pay50 v95 v96) (k0_pay51 v95 v96) spent

/-- The fourth tile of 2048 rows of the result. -/
def tile3 (q : Vec F S1x2048x768 .f32) (ck : Vec F S1x128x768 .f32) (cv : Vec F S1x128x768 .bf16)
    (gc gs : Vec F S1x1x1x2048 .f32) : FVec F S1x2048x768 .f32 :=
  let v94 := k0_pay63 (k0_pay55 q ck) rows128 k0_pay57 k0_pay58 k0_pay59 k0_pay60
  let v96 := k0_pay64 (k0_pay55 q ck) rows128 k0_pay57 k0_pay58 k0_pay59 k0_pay60
  k0_pay6 (k0_pay52 cv) (k0_pay53 gc) (k0_pay54 gs) (k0_pay55 q ck) (k0_pay56 q ck) (masked3 q ck)
    (k0_pay62 (k0_pay55 q ck) rows128 k0_pay57 k0_pay58 k0_pay59 k0_pay60) (k0_pay65 v94 v96) (k0_pay66 v94 v96)
    k0_pay67

/-- Tile `k` of the result. -/
def tile (k : ℕ) (q : Vec F S1x2048x768 .f32) (ck : Vec F S1x128x768 .f32) (cv : Vec F S1x128x768 .bf16)
    (gc gs : Vec F S1x1x1x2048 .f32) : FVec F S1x2048x768 .f32 :=
  match k with
  | 0 => tile0 q ck cv gc gs
  | 1 => tile1 q ck cv gc gs
  | 2 => tile2 q ck cv gc gs
  | _ => tile3 q ck cv gc gs

end Cert.KernelIdeal.Own

end
-- ==== Proof.Body.lean ====
/-
  The kernel's body at one grid point, with the values it leaves.

  `body_compress` is a point of the first eight steps: it leaves 16 rows of each carried buffer replaced. `body_tile0` to
  `body_tile3` are the points of the last four steps: each leaves the output's staging buffer at that tile of the result,
  computed from the carried rows of its batch entry, and changes nothing else.
-/
module

public import proofs.«01_k».proof.Proof.Tiles
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The carried rows of the batch entry of coordinates `i`, read off a carried buffer's contents `x`. -/
abbrev entryRows {e : EltTy} (i : grid0.Coords) (x : Vec F S2x128x768 e)
    (h : ∀ a, (![(i 0).val, 0, 0] : Fin 3 → ℕ) a + S1x128x768.size a ≤ S2x128x768.size a) : Vec F S1x128x768 e :=
  VecWindow.window (s := S2x128x768) x ![(i 0).val, 0, 0] S1x128x768.size h

/-- The batch coordinate keeps one entry's rows inside the carried buffer. -/
theorem entry_inb (i : grid0.Coords) (a : Fin 3) : (![(i 0).val, 0, 0] : Fin 3 → ℕ) a + S1x128x768.size a ≤ S2x128x768.size a := by
  have h0 : (i 0).val < 2 := (i 0).isLt
  fin_cases a <;> simp <;> omega

variable (c : Dev nD) (i : grid0.Coords) (arg2 : Memref sig .tc .vmem S1x1024x768 .f32) (harg2 : arg2.IsWhole)
  (arg3 : Memref sig .tc .vmem S1x1024x768 .f32) (harg3 : arg3.IsWhole)
  (arg4 : Memref sig .tc .vmem S1x2048x768 .f32) (harg4 : arg4.IsWhole)
  (arg5 : Memref sig .tc .vmem S1x1x1x2048 .f32) (harg5 : arg5.IsWhole)
  (arg6 : Memref sig .tc .vmem S1x1x1x2048 .f32) (harg6 : arg6.IsWhole)
  (arg7 : Memref sig .tc .vmem S1x2048x768 .f32) (harg7 : arg7.IsWhole)
  (arg8 : Memref sig .tc .vmem S2x128x768 .f32) (harg8 : arg8.IsWhole)
  (arg9 : Memref sig .tc .vmem S2x128x768 .bf16) (harg9 : arg9.IsWhole)

set_option maxHeartbeats 1000000 in
/-- A point of the first eight steps of a batch entry: on the keys block `x0` and the values block `x1`, the body leaves
    the carried buffers with `k0_pay1 x0` and `k0_pay2 x1` put over the point's 16 rows, and the rest as it was. -/
theorem body_compress
    (hc0 : k0_cond1 i = 1#1) (hc1 : ¬k0_cond2 i = 1#1) (hc2 : ¬k0_cond3 i = 1#1) (hc3 : ¬k0_cond4 i = 1#1) (hc4 : ¬k0_cond5 i = 1#1)
    (x0 x1 : Vec F S1x1024x768 .f32) (x8 : Vec F S2x128x768 .f32) (x9 : Vec F S2x128x768 .bf16) (E : Set ℕ) (K : PUnit → sProp 𝕄) :
    iprop(owns (c : Thread nD τ) arg2 fullShare x0 ∗ owns (c : Thread nD τ) arg3 fullShare x1 ∗ owns (c : Thread nD τ) arg8 fullShare x8 ∗ owns (c : Thread nD τ) arg9 fullShare x9
        ∗ (iprop(owns (c : Thread nD τ) arg2 fullShare x0 ∗ owns (c : Thread nD τ) arg3 fullShare x1
              ∗ owns (c : Thread nD τ) arg8 fullShare (VecWindow.put (s := S2x128x768) x8 ![(i 0).val, 16 * (i 1).val, 0] S1x16x768.size (k0_pay1 x0))
              ∗ owns (c : Thread nD τ) arg9 fullShare (VecWindow.put (s := S2x128x768) x9 ![(i 0).val, 16 * (i 1).val, 0] S1x16x768.size (k0_pay2 x1))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f8, %hf8, H8⟩, ⟨%f9, %hf9, H9⟩, Hk⟩
  sl_exec (disch := first | sl_exact hc0 | sl_exact hc1 | sl_exact hc2 | sl_exact hc3 | sl_exact hc4)
  sl_step
  iapply Hk
  isplitl [H0]
  · iexists _; isplitr; · ipureintro; exact hf0
    iexact H0
  isplitl [H1]
  · iexists _; isplitr; · ipureintro; exact hf1
    iexact H1
  isplitl [H8]
  · iexists _; isplitr; swap; · iexact H8
    ipureintro
    rw [View.read_writes_cons_put _ _ _ _ _ (k0_off1_eq i), View.writes_nil, hf8, View.readAt_full, hf0]
  · iexists _; isplitr; swap; · iexact H9
    ipureintro
    rw [View.read_writes_cons_put _ _ _ _ _ (k0_off1_eq i), View.writes_nil, hf9, View.readAt_full, hf1]

/-- A load of a whole staging buffer of three axes reads the buffer's contents. -/
theorem load_block {s : Shape} {e : EltTy} {sp : Space} (v : View sig .tc sp s e) {f : v.ty.Contents (Elt F)} {x : Vec F s e} (hf : v.read (Elt F) f = x)
    {off : Fin s.rank → ℕ} (inb : ∀ a, off a + s.size a ≤ s.size a) : x = v.readAt (Elt F) (Rect.unit off s.size inb).toLoadRect f :=
  ((View.readAt_full v f inb).trans hf).symm

/-- A load of one batch entry's rows of a carried buffer reads those rows of its contents. -/
theorem load_entry {e : EltTy} {sp : Space} (v : View sig .tc sp S2x128x768 e) {f : v.ty.Contents (Elt F)} {x : Vec F S2x128x768 e} (hf : v.read (Elt F) f = x)
    {off : Fin 3 → ℕ} (h : off = ![(i 0).val, 0, 0]) (inb : ∀ a, off a + S1x128x768.size a ≤ S2x128x768.size a) :
    entryRows i x (entry_inb i) = v.readAt (Elt F) (Rect.unit (s := S2x128x768) off S1x128x768.size inb).toLoadRect f := by
  subst hf
  exact (View.readAt_unit (s := S2x128x768) v f inb h (entry_inb i)).symm

/-- What a point of a batch entry's output tile `k` does: on the queries block `x2`, the gate rows `x3` and `x4`, and the
    carried buffers `x8` and `x9`, the body leaves the output's staging buffer at tile `k` of the result over the carried
    rows of the entry, and everything else as it was. -/
def TileTriple (k : ℕ) : Prop :=
  ∀ (x2 : Vec F S1x2048x768 .f32) (x3 x4 : Vec F S1x1x1x2048 .f32) (x8 : Vec F S2x128x768 .f32) (x9 : Vec F S2x128x768 .bf16) (E : Set ℕ) (K : PUnit → sProp 𝕄),
    iprop(owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x8 ∗ owns (c : Thread nD τ) arg9 fullShare x9
        ∗ (iprop(owns (c : Thread nD τ) arg4 fullShare x2 ∗ owns (c : Thread nD τ) arg5 fullShare x3 ∗ owns (c : Thread nD τ) arg6 fullShare x4
              ∗ owns (c : Thread nD τ) arg7 fullShare (tile k x2 (entryRows i x8 (entry_inb i)) (entryRows i x9 (entry_inb i)) x3 x4) ∗ owns (c : Thread nD τ) arg8 fullShare x8 ∗ owns (c : Thread nD τ) arg9 fullShare x9) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K

set_option maxHeartbeats 1000000 in
/-- The point of a batch entry's first output tile. -/
theorem body_tile0 (hc0 : ¬k0_cond1 i = 1#1) (hc1 : k0_cond2 i = 1#1) (hc2 : ¬k0_cond3 i = 1#1) (hc3 : ¬k0_cond4 i = 1#1) (hc4 : ¬k0_cond5 i = 1#1) :
    TileTriple (F := F) c i arg2 harg2 arg3 harg3 arg4 harg4 arg5 harg5 arg6 harg6 arg7 harg7 arg8 harg8 arg9 harg9 0 := by
  intro x2 x3 x4 x8 x9 E K
  simp only [cc0__fused_kernel_eq_skeleton]; unfold cc0__fused_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%d7, %f7, -, H7⟩, ⟨%f8, %hf8, H8⟩, ⟨%f9, %hf9, H9⟩, Hk⟩
  sl_exec (disch := first | sl_exact hc0 | sl_exact hc1 | sl_exact hc2 | sl_exact hc3 | sl_exact hc4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H7]
  · iexists _; isplitr; swap; · iexact H7
    ipureintro
    rw [View.read_writes_full, load_entry i _ hf8 (k0_off2_eq i) (k0_off2_inb i hc1), load_entry i _ hf9 (k0_off2_eq i) (k0_off2_inb i hc1),
      load_block _ hf2 inb_S1x2048x768_S1x2048x768_0_0_0, load_block _ hf3 inb_S1x1x1x2048_S1x1x1x2048_0_0_0_0, load_block _ hf4 inb_S1x1x1x2048_S1x1x1x2048_0_0_0_0]
    rfl
  isplitl [H8]
  · iexists _; isplitr; · ipureintro; exact hf8
    iexact H8
  · iexists _; isplitr; · ipureintro; exact hf9
    iexact H9

set_option maxHeartbeats 1000000 in
/-- The point of a batch entry's second output tile. -/
theorem body_tile1 (hc0 : ¬k0_cond1 i = 1#1) (hc1 : ¬k0_cond2 i = 1#1) (hc2 : k0_cond3 i = 1#1) (hc3 : ¬k0_cond4 i = 1#1) (hc4 : ¬k0_cond5 i = 1#1) :
    TileTriple (F := F) c i arg2 harg2 arg3 harg3 arg4 harg4 arg5 harg5 arg6 harg6 arg7 harg7 arg8 harg8 arg9 harg9 1 := by
  intro x2 x3 x4 x8 x9 E K
  simp only [cc0__fused_kernel_eq_skeleton]; unfold cc0__fused_kernel_skel
  simp only [k0_part4_eq_skeleton, k0_part5_eq_skeleton, k0_part6_eq_skeleton]
  unfold owns
  iintro ⟨⟨%f2, %hf2, H2⟩, ⟨%f3, %hf3, H3⟩, ⟨%f4, %hf4, H4⟩, ⟨%d7, %f7, -, H7⟩, ⟨%f8, %hf8, H8⟩, ⟨%f9, %hf9, H9⟩, Hk⟩
  sl_exec (disch := first | sl_exact hc0 | sl_exact hc1 | sl_exact hc2 | sl_exact hc3 | sl_exact hc4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H7]
  · iexists _; isplitr; swap; · iexact H7
    ipureintro
    rw [View.read_writes_full, load_entry i _ hf8 (k0_off3_eq i) (k0_off3_inb i hc2), load_entry i _ hf9 (k0_off3_eq i) (k0_off3_inb i hc2),
      load_block _ hf2 inb_S1x2048x768_S1x2048x768_0_0_0, load_block _ hf3 inb_S1x1x1x2048_S1x1x1x2048_0_0_0_0, load_block _ hf4 inb_S1x1x1x2048_S1x1x1x2048_0_0_0_0]
    rfl
  isplitl [H8]
  · iexists _; isplitr; · ipureintro; exact hf8
    iexact H8
  · iexists _; isplitr; · ipureintro; exact hf9
    iexact H9

set_option maxHeartbeats 1000000 in
/-- The point of a batch entry's third output tile. -/
theorem body_tile2 (hc0 : ¬k0_cond1 i = 1#1) (hc1 : ¬k0_cond2 i = 1#1) (hc2 : ¬k0_cond3 i = 1#1) (hc3 : k0_cond4 i = 1#1) (hc4 : ¬k0_cond5 i = 1#1) :
    TileTriple (F := F) c i arg2 harg2 arg3 harg3 arg4 harg4 arg5 harg5 arg6 harg6 arg7 harg7 arg8 harg8 arg9 harg9 2 := by
  intro x2 x3 x4 x8 x9 E K
  simp only [cc0__fused_kernel_eq_skeleton]; unfold cc0__fused_kernel_skel
  simp only [k0_part7_eq_skeleton, k0_part8_eq_skeleton, k0_part9_eq_skeleton]
  unfold owns
  iintro ⟨⟨%f2, %hf2, H2⟩, ⟨%f3, %hf3, H3⟩, ⟨%f4, %hf4, H4⟩, ⟨%d7, %f7, -, H7⟩, ⟨%f8, %hf8, H8⟩, ⟨%f9, %hf9, H9⟩, Hk⟩
  sl_exec (disch := first | sl_exact hc0 | sl_exact hc1 | sl_exact hc2 | sl_exact hc3 | sl_exact hc4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H7]
  · iexists _; isplitr; swap; · iexact H7
    ipureintro
    rw [View.read_writes_full, load_entry i _ hf8 (k0_off4_eq i) (k0_off4_inb i hc3), load_entry i _ hf9 (k0_off4_eq i) (k0_off4_inb i hc3),
      load_block _ hf2 inb_S1x2048x768_S1x2048x768_0_0_0, load_block _ hf3 inb_S1x1x1x2048_S1x1x1x2048_0_0_0_0, load_block _ hf4 inb_S1x1x1x2048_S1x1x1x2048_0_0_0_0]
    rfl
  isplitl [H8]
  · iexists _; isplitr; · ipureintro; exact hf8
    iexact H8
  · iexists _; isplitr; · ipureintro; exact hf9
    iexact H9

set_option maxHeartbeats 1000000 in
/-- The point of a batch entry's fourth output tile. -/
theorem body_tile3 (hc0 : ¬k0_cond1 i = 1#1) (hc1 : ¬k0_cond2 i = 1#1) (hc2 : ¬k0_cond3 i = 1#1) (hc3 : ¬k0_cond4 i = 1#1) (hc4 : k0_cond5 i = 1#1) :
    TileTriple (F := F) c i arg2 harg2 arg3 harg3 arg4 harg4 arg5 harg5 arg6 harg6 arg7 harg7 arg8 harg8 arg9 harg9 3 := by
  intro x2 x3 x4 x8 x9 E K
  simp only [cc0__fused_kernel_eq_skeleton]; unfold cc0__fused_kernel_skel
  simp only [k0_part10_eq_skeleton, k0_part11_eq_skeleton, k0_part12_eq_skeleton]
  unfold owns
  iintro ⟨⟨%f2, %hf2, H2⟩, ⟨%f3, %hf3, H3⟩, ⟨%f4, %hf4, H4⟩, ⟨%d7, %f7, -, H7⟩, ⟨%f8, %hf8, H8⟩, ⟨%f9, %hf9, H9⟩, Hk⟩
  sl_exec (disch := first | sl_exact hc0 | sl_exact hc1 | sl_exact hc2 | sl_exact hc3 | sl_exact hc4)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H7]
  · iexists _; isplitr; swap; · iexact H7
    ipureintro
    rw [View.read_writes_full, load_entry i _ hf8 (k0_off5_eq i) (k0_off5_inb i hc4), load_entry i _ hf9 (k0_off5_eq i) (k0_off5_inb i hc4),
      load_block _ hf2 inb_S1x2048x768_S1x2048x768_0_0_0, load_block _ hf3 inb_S1x1x1x2048_S1x1x1x2048_0_0_0_0, load_block _ hf4 inb_S1x1x1x2048_S1x1x1x2048_0_0_0_0]
    rfl
  isplitl [H8]
  · iexists _; isplitr; · ipureintro; exact hf8
    iexact H8
  · iexists _; isplitr; · ipureintro; exact hf9
    iexact H9

end Cert.KernelIdeal.Own

end
-- ==== Proof.Run.lean ====
/-
  The kernel's run over its 24 grid points (two batch entries of twelve steps), with the values it leaves.

  Through the first eight steps of an entry the two carried buffers fill up, 16 rows a step (`Filled`, kept by
  `filled_compress` and `filled_tile`); after them the entry's carried rows are `keysOf` and `valsOf`
  (`entryRows_keys`, `entryRows_vals`), and each of the last four steps leaves its tile over those rows
  (`sound_body`). `run_quiescent` is the run, and `frame` the claim that it ends, leaves the arguments unchanged and every
  counter at zero.
-/
module

public import proofs.«01_k».proof.Proof.Body
public import Idealize.ShloMosaic.Lib.Claim
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where a point is -/

/-- There are 24 points. -/
theorem lt_24 (t : Fin cfg0.N) : t.val < 24 := lt_of_lt_of_eq t.isLt N_0

/-- A point's batch entry. -/
theorem coord_entry (t : Fin cfg0.N) : (grid0.coords t 0).val = t.val / 12 := by
  have h : (grid0.coords t 0).val = t.val / 12 % 2 := Pipeline.Grid.coords_val t 0 (by decide) rfl
  have := lt_24 t
  omega

/-- A point's step within its batch entry. -/
theorem coord_step (t : Fin cfg0.N) : (grid0.coords t 1).val = t.val % 12 := by
  have h : (grid0.coords t 1).val = t.val / 1 % 12 := Pipeline.Grid.coords_val t 1 (by decide) rfl
  omega

/-- The first condition holds at the first eight steps of an entry. -/
theorem cond1_iff (t : Fin cfg0.N) : k0_cond1 (grid0.coords t) = 1#1 ↔ t.val % 12 ≤ 7 :=
  (by decide +kernel : ∀ t : Fin grid0.N, k0_cond1 (grid0.coords t) = 1#1 ↔ t.val % 12 ≤ 7) t
/-- The second condition holds at an entry's ninth step. -/
theorem cond2_iff (t : Fin cfg0.N) : k0_cond2 (grid0.coords t) = 1#1 ↔ t.val % 12 = 8 :=
  (by decide +kernel : ∀ t : Fin grid0.N, k0_cond2 (grid0.coords t) = 1#1 ↔ t.val % 12 = 8) t
/-- The third condition holds at an entry's tenth step. -/
theorem cond3_iff (t : Fin cfg0.N) : k0_cond3 (grid0.coords t) = 1#1 ↔ t.val % 12 = 9 :=
  (by decide +kernel : ∀ t : Fin grid0.N, k0_cond3 (grid0.coords t) = 1#1 ↔ t.val % 12 = 9) t
/-- The fourth condition holds at an entry's eleventh step. -/
theorem cond4_iff (t : Fin cfg0.N) : k0_cond4 (grid0.coords t) = 1#1 ↔ t.val % 12 = 10 :=
  (by decide +kernel : ∀ t : Fin grid0.N, k0_cond4 (grid0.coords t) = 1#1 ↔ t.val % 12 = 10) t
/-- The fifth condition holds at an entry's last step. -/
theorem cond5_iff (t : Fin cfg0.N) : k0_cond5 (grid0.coords t) = 1#1 ↔ t.val % 12 = 11 :=
  (by decide +kernel : ∀ t : Fin grid0.N, k0_cond5 (grid0.coords t) = 1#1 ↔ t.val % 12 = 11) t

/-- The output's block is written back exactly at the last four steps of an entry. -/
theorem flush_iff (t : Fin cfg0.N) : (cfg0.win 5).flush t = true ↔ 8 ≤ t.val % 12 :=
  (by decide +kernel : ∀ t : Fin grid0.N, win0_5.flush t = true ↔ 8 ≤ t.val % 12) t

/-- The output is left alone exactly at the first eight steps of an entry. -/
theorem idle_iff (t : Fin cfg0.N) : cfg0.idle 5 (grid0.coords t) = true ↔ t.val % 12 ≤ 7 :=
  (by decide +kernel : ∀ t : Fin grid0.N, idle0 5 (grid0.coords t) = true ↔ t.val % 12 ≤ 7) t

/-! ## The carried rows -/

/-- The point of batch entry `b` at step `j`. -/
def point (b : ℕ) (j : ℕ) (hb : b < 2) (hj : j < 12) : Fin cfg0.N := ⟨12 * b + j, by rw [show cfg0.N = 24 from N_0]; omega⟩

/-- A position in a point's 16 rows of one batch entry. -/
abbrev rowIx (r : ℕ) (d : Fin 768) (h : r < 16) : S1x16x768.Idx := fun | ⟨0, _⟩ => (0 : Fin 1) | ⟨1, _⟩ => (⟨r, h⟩ : Fin 16) | ⟨2, _⟩ => d

/-- Batch entry `b`'s 128 mean key rows, scaled: row `n` is row `n % 16` of what step `n / 16` stores. -/
def keysOf (c : Dev nD) (b : ℕ) (hb : b < 2) : Vec F S1x128x768 .f32 := fun y =>
  have h1 : (y 1).val < 128 := (y 1).isLt
  k0_pay1 (iblk m c 0 (point b ((y 1).val / 16) hb (by omega)))
    (rowIx ((y 1).val % 16) (y 2) (by omega))

/-- Batch entry `b`'s 128 mean value rows. -/
def valsOf (c : Dev nD) (b : ℕ) (hb : b < 2) : Vec F S1x128x768 .bf16 := fun y =>
  have h1 : (y 1).val < 128 := (y 1).isLt
  k0_pay2 (iblk m c 1 (point b ((y 1).val / 16) hb (by omega)))
    (rowIx ((y 1).val % 16) (y 2) (by omega))

/-- The rows a point's stores cover lie inside the carried buffer. -/
theorem rows_inb (t : Fin cfg0.N) (h : t.val % 12 ≤ 7) (a : Fin 3) :
    (![t.val / 12, 16 * (t.val % 12), 0] : Fin 3 → ℕ) a + S1x16x768.size a ≤ S2x128x768.size a := by
  have := lt_24 t
  fin_cases a <;> simp <;> omega

/-- The 16 rows of a carried buffer `x` that the point `t` stores. -/
abbrev pointRows {e : EltTy} (x : Vec F S2x128x768 e) (t : Fin cfg0.N) (h : t.val % 12 ≤ 7) : Vec F S1x16x768 e :=
  VecWindow.window (s := S2x128x768) x ![t.val / 12, 16 * (t.val % 12), 0] S1x16x768.size (rows_inb t h)

/-- The carried buffers `ck` and `cv` hold, at every storing point before point `n`, what that point stores. -/
def Filled (c : Dev nD) (n : ℕ) (ck : Vec F S2x128x768 .f32) (cv : Vec F S2x128x768 .bf16) : Prop :=
  ∀ (t : Fin cfg0.N) (h : t.val % 12 ≤ 7), t.val < n →
    pointRows ck t h = k0_pay1 (iblk m c 0 t) ∧ pointRows cv t h = k0_pay2 (iblk m c 1 t)

/-- The rows of another storing point are kept by a store over the rows of the point `t`. -/
theorem pointRows_put_other {e : EltTy} (x : Vec F S2x128x768 e) (t t' : Fin cfg0.N) (h : t.val % 12 ≤ 7) (h' : t'.val % 12 ≤ 7)
    (hne : t'.val ≠ t.val) (w : Vec F S1x16x768 e) :
    pointRows (VecWindow.put (s := S2x128x768) x ![t.val / 12, 16 * (t.val % 12), 0] S1x16x768.size w) t' h' = pointRows x t' h' := by
  by_cases hb : t'.val / 12 = t.val / 12
  · refine VecWindow.window_put_of_disjoint (s := S2x128x768) x _ _ _ _ (rows_inb t' h') w 1 ?_
    show 16 * (t'.val % 12) + 16 ≤ 16 * (t.val % 12) ∨ 16 * (t.val % 12) + 16 ≤ 16 * (t'.val % 12)
    omega
  · refine VecWindow.window_put_of_disjoint (s := S2x128x768) x _ _ _ _ (rows_inb t' h') w 0 ?_
    show t'.val / 12 + 1 ≤ t.val / 12 ∨ t.val / 12 + 1 ≤ t'.val / 12
    omega

/-- A storing point fills its own rows. -/
theorem filled_compress (c : Dev nD) (t : Fin cfg0.N) (h : t.val % 12 ≤ 7) {ck : Vec F S2x128x768 .f32} {cv : Vec F S2x128x768 .bf16}
    (hF : Filled m c t.val ck cv) :
    Filled m c (t.val + 1) (VecWindow.put (s := S2x128x768) ck ![t.val / 12, 16 * (t.val % 12), 0] S1x16x768.size (k0_pay1 (iblk m c 0 t)))
      (VecWindow.put (s := S2x128x768) cv ![t.val / 12, 16 * (t.val % 12), 0] S1x16x768.size (k0_pay2 (iblk m c 1 t))) := by
  intro t' h' hlt
  by_cases he : t'.val = t.val
  · obtain rfl : t' = t := Fin.ext he
    exact ⟨VecWindow.window_put_same (s := S2x128x768) _ _ _ (rows_inb t' h') _, VecWindow.window_put_same (s := S2x128x768) _ _ _ (rows_inb t' h') _⟩
  · rw [pointRows_put_other _ t t' h h' he, pointRows_put_other _ t t' h h' he]
    exact hF t' h' (by omega)

/-- A tile's point changes nothing of what is filled. -/
theorem filled_tile (c : Dev nD) (t : Fin cfg0.N) (h : 8 ≤ t.val % 12) {ck : Vec F S2x128x768 .f32} {cv : Vec F S2x128x768 .bf16}
    (hF : Filled m c t.val ck cv) : Filled m c (t.val + 1) ck cv := fun t' h' hlt =>
  hF t' h' (by
    by_contra hh
    have he : t'.val = t.val := by omega
    rw [he] at h'; omega)

/-- At a tile's point of batch entry `b`, the entry's rows of the first carried buffer are `keysOf`. -/
theorem entryRows_keys (c : Dev nD) (t : Fin cfg0.N) (h : 8 ≤ t.val % 12) (hb : t.val / 12 < 2) {ck : Vec F S2x128x768 .f32} {cv : Vec F S2x128x768 .bf16}
    (hF : Filled m c t.val ck cv) : entryRows (grid0.coords t) ck (entry_inb _) = keysOf m c (t.val / 12) hb := by
  funext y
  have h1 : (y 1).val < 128 := (y 1).isLt
  have hs : (12 * (t.val / 12) + (y 1).val / 16) % 12 = (y 1).val / 16 := by omega
  have hd : (12 * (t.val / 12) + (y 1).val / 16) / 12 = t.val / 12 := by omega
  have hp := (hF (point (t.val / 12) ((y 1).val / 16) hb (by omega)) (by show (12 * (t.val / 12) + (y 1).val / 16) % 12 ≤ 7; omega) (by show 12 * (t.val / 12) + (y 1).val / 16 < t.val; omega)).1
  refine Eq.trans ?_ (congrFun hp (rowIx ((y 1).val % 16) (y 2) (by omega)))
  refine congrArg ck (funext fun a => Fin.ext ?_)
  match a with
  | ⟨0, _⟩ =>
    have h0 : (y 0).val < 1 := (y 0).isLt
    show (grid0.coords t 0).val + 1 * (y 0).val = (12 * (t.val / 12) + (y 1).val / 16) / 12 + 1 * 0
    rw [coord_entry]; omega
  | ⟨1, _⟩ =>
    show 0 + 1 * (y 1).val = 16 * ((12 * (t.val / 12) + (y 1).val / 16) % 12) + 1 * ((y 1).val % 16)
    omega
  | ⟨2, _⟩ => rfl

/-- At a tile's point of batch entry `b`, the entry's rows of the second carried buffer are `valsOf`. -/
theorem entryRows_vals (c : Dev nD) (t : Fin cfg0.N) (h : 8 ≤ t.val % 12) (hb : t.val / 12 < 2) {ck : Vec F S2x128x768 .f32} {cv : Vec F S2x128x768 .bf16}
    (hF : Filled m c t.val ck cv) : entryRows (grid0.coords t) cv (entry_inb _) = valsOf m c (t.val / 12) hb := by
  funext y
  have h1 : (y 1).val < 128 := (y 1).isLt
  have hs : (12 * (t.val / 12) + (y 1).val / 16) % 12 = (y 1).val / 16 := by omega
  have hd : (12 * (t.val / 12) + (y 1).val / 16) / 12 = t.val / 12 := by omega
  have hp := (hF (point (t.val / 12) ((y 1).val / 16) hb (by omega)) (by show (12 * (t.val / 12) + (y 1).val / 16) % 12 ≤ 7; omega) (by show 12 * (t.val / 12) + (y 1).val / 16 < t.val; omega)).2
  refine Eq.trans ?_ (congrFun hp (rowIx ((y 1).val % 16) (y 2) (by omega)))
  refine congrArg cv (funext fun a => Fin.ext ?_)
  match a with
  | ⟨0, _⟩ =>
    have h0 : (y 0).val < 1 := (y 0).isLt
    show (grid0.coords t 0).val + 1 * (y 0).val = (12 * (t.val / 12) + (y 1).val / 16) / 12 + 1 * 0
    rw [coord_entry]; omega
  | ⟨1, _⟩ =>
    show 0 + 1 * (y 1).val = 16 * ((12 * (t.val / 12) + (y 1).val / 16) % 12) + 1 * ((y 1).val % 16)
    omega
  | ⟨2, _⟩ => rfl

/-! ## The proof data -/

/-- A point's batch entry is one of the two. -/
theorem entry_lt (t : Fin cfg0.N) : t.val / 12 < 2 := by have := lt_24 t; omega

/-- What the point `t` leaves in the output's staging buffer, at the last four steps of its entry. -/
def leftTile (c : Dev nD) (t : Fin cfg0.N) : Vec F S1x2048x768 .f32 :=
  tile (t.val % 12 - 8) (iblk m c 2 t) (keysOf m c (t.val / 12) (entry_lt t)) (valsOf m c (t.val / 12) (entry_lt t)) (iblk m c 3 t) (iblk m c 4 t)

/-- The carried buffer of averaged keys. -/
abbrev carriedK : Memref sig .tc .vmem S2x128x768 .f32 := Memref.whole cc0_scratch0
/-- The carried buffer of averaged values. -/
abbrev carriedV : Memref sig .tc .vmem S2x128x768 .bf16 := Memref.whole cc0_scratch1

/-- What is held between points: the carried buffers, filled so far, and the generator register. -/
def held (c : Dev nD) (n : ℕ) : sProp 𝕄 :=
  iprop((∃ ck : Vec F S2x128x768 .f32, ∃ cv : Vec F S2x128x768 .bf16, ⌜Filled m c n ck cv⌝ ∗ owns (c : Thread nD τ) carriedK fullShare ck ∗ owns (c : Thread nD τ) carriedV fullShare cv)
    ∗ (∃ r, prngReg c r))

/-- What is held outside the points: the carried buffers at anything and the generator register. -/
theorem outside_eq (c : Dev nD) :
    (Pipeline.ΦA spec0 c : sProp 𝕄) = iprop(iprop((∃ d, owns (c : Thread nD τ) carriedK fullShare d) ∗ (∃ d, owns (c : Thread nD τ) carriedV fullShare d)) ∗ (∃ r, prngReg c r)) := by
  unfold Pipeline.ΦA
  rw [scopedRest0_eq]
  simp only [carriedK, carriedV, owns_whole]
  try rfl

/-- Before the first point nothing need be filled. -/
theorem outside_held (c : Dev nD) : (Pipeline.ΦA spec0 c : sProp 𝕄) ⊢ held m c 0 := by
  rw [outside_eq]; unfold held
  iintro ⟨⟨⟨%d0, H0⟩, ⟨%d1, H1⟩⟩, Hg⟩
  isplitl [H0 H1]
  · iexists d0; iexists d1
    isplitr; · ipureintro; exact fun t h hlt => absurd hlt (Nat.not_lt_zero _)
    isplitl [H0]; · iexact H0
    iexact H1
  iexact Hg

/-- After the last point the contents are forgotten. -/
theorem held_outside (c : Dev nD) (n : ℕ) : held m c n ⊢ (Pipeline.ΦA spec0 c : sProp 𝕄) := by
  rw [outside_eq]; unfold held
  iintro ⟨⟨%d0, %d1, -, H0, H1⟩, Hg⟩
  isplitl [H0 H1]
  · isplitl [H0]
    · iexists d0; iexact H0
    iexists d1; iexact H1
  iexact Hg

/-- The proof data of the one pipeline: the arrays as the region finds them; after the body at point `t` each input's
    buffer at its block and the output's at the point's tile; between points `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => leftTile m c t
  Φ t := held m c t.val
  q _ := fullShare
  owed _ := 0

/-- The arrays are as the region finds them. -/
theorem A_eq (c : Dev nD) (w : Fin cfg0.W) : (dats m 0 c).A w = V m c (Pipeline.arrRef spec0 w) := by dsimp only [dats]

/-- The buffer of window 0 after a point holds its block. -/
theorem after_0 (c : Dev nD) (t : Fin cfg0.N) : (dats m 0 c).after 0 t = iblk m c 0 t := by dsimp only [dats]
/-- The buffer of window 1 after a point holds its block. -/
theorem after_1 (c : Dev nD) (t : Fin cfg0.N) : (dats m 0 c).after 1 t = iblk m c 1 t := by dsimp only [dats]
/-- The buffer of window 2 after a point holds its block. -/
theorem after_2 (c : Dev nD) (t : Fin cfg0.N) : (dats m 0 c).after 2 t = iblk m c 2 t := by dsimp only [dats]
/-- The buffer of window 3 after a point holds its block. -/
theorem after_3 (c : Dev nD) (t : Fin cfg0.N) : (dats m 0 c).after 3 t = iblk m c 3 t := by dsimp only [dats]
/-- The buffer of window 4 after a point holds its block. -/
theorem after_4 (c : Dev nD) (t : Fin cfg0.N) : (dats m 0 c).after 4 t = iblk m c 4 t := by dsimp only [dats]
/-- The output's buffer after a point holds the point's tile. -/
theorem after_5 (c : Dev nD) (t : Fin cfg0.N) : (dats m 0 c).after 5 t = leftTile m c t := by dsimp only [dats]

/-- The buffer of window 0 before a point holds its block. -/
theorem before_0 (c : Dev nD) (t : Fin cfg0.N) (d) : (dats m 0 c).before 0 t d = iblk m c 0 t :=
  before0_0_of m (dats m 0 c) (A_eq m c 0) (after_0 m c) t d
/-- The buffer of window 1 before a point holds its block. -/
theorem before_1 (c : Dev nD) (t : Fin cfg0.N) (d) : (dats m 0 c).before 1 t d = iblk m c 1 t :=
  before0_1_of m (dats m 0 c) (A_eq m c 1) (after_1 m c) t d
/-- The buffer of window 2 before a point holds its block. -/
theorem before_2 (c : Dev nD) (t : Fin cfg0.N) (d) : (dats m 0 c).before 2 t d = iblk m c 2 t :=
  before0_2_of m (dats m 0 c) (A_eq m c 2) (after_2 m c) t d
/-- The buffer of window 3 before a point holds its block. -/
theorem before_3 (c : Dev nD) (t : Fin cfg0.N) (d) : (dats m 0 c).before 3 t d = iblk m c 3 t :=
  before0_3_of m (dats m 0 c) (A_eq m c 3) (after_3 m c) t d
/-- The buffer of window 4 before a point holds its block. -/
theorem before_4 (c : Dev nD) (t : Fin cfg0.N) (d) : (dats m 0 c).before 4 t d = iblk m c 4 t :=
  before0_4_of m (dats m 0 c) (A_eq m c 4) (after_4 m c) t d

/-! ## The body at a point -/

/-- The staging buffer of window 0 at a point. -/
abbrev stage0 (t : Fin cfg0.N) : Memref sig .tc .vmem S1x1024x768 .f32 := win0_0.stage (cfg0.slots t 0)
/-- The staging buffer of window 1 at a point. -/
abbrev stage1 (t : Fin cfg0.N) : Memref sig .tc .vmem S1x1024x768 .f32 := win0_1.stage (cfg0.slots t 1)
/-- The staging buffer of window 2 at a point. -/
abbrev stage2 (t : Fin cfg0.N) : Memref sig .tc .vmem S1x2048x768 .f32 := win0_2.stage (cfg0.slots t 2)
/-- The staging buffer of window 3 at a point. -/
abbrev stage3 (t : Fin cfg0.N) : Memref sig .tc .vmem S1x1x1x2048 .f32 := win0_3.stage (cfg0.slots t 3)
/-- The staging buffer of window 4 at a point. -/
abbrev stage4 (t : Fin cfg0.N) : Memref sig .tc .vmem S1x1x1x2048 .f32 := win0_4.stage (cfg0.slots t 4)
/-- The staging buffer of window 5 at a point. -/
abbrev stage5 (t : Fin cfg0.N) : Memref sig .tc .vmem S1x2048x768 .f32 := win0_5.stage (cfg0.slots t 5)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d)))

/-- What the body hands back at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- Leaving window 0 at a point is owning its buffer at its block. -/
theorem leaves_0 (c : Dev nD) (t : Fin cfg0.N) : (dats m 0 c).leavesExact 0 t = owns (c : Thread nD τ) (stage0 t) fullShare (iblk m c 0 t) := by
  rw [← after_0]
/-- Leaving window 1 at a point is owning its buffer at its block. -/
theorem leaves_1 (c : Dev nD) (t : Fin cfg0.N) : (dats m 0 c).leavesExact 1 t = owns (c : Thread nD τ) (stage1 t) fullShare (iblk m c 1 t) := by
  rw [← after_1]
/-- Leaving window 2 at a point is owning its buffer at its block. -/
theorem leaves_2 (c : Dev nD) (t : Fin cfg0.N) : (dats m 0 c).leavesExact 2 t = owns (c : Thread nD τ) (stage2 t) fullShare (iblk m c 2 t) := by
  rw [← after_2]
/-- Leaving window 3 at a point is owning its buffer at its block. -/
theorem leaves_3 (c : Dev nD) (t : Fin cfg0.N) : (dats m 0 c).leavesExact 3 t = owns (c : Thread nD τ) (stage3 t) fullShare (iblk m c 3 t) := by
  rw [← after_3]
/-- Leaving window 4 at a point is owning its buffer at its block. -/
theorem leaves_4 (c : Dev nD) (t : Fin cfg0.N) : (dats m 0 c).leavesExact 4 t = owns (c : Thread nD τ) (stage4 t) fullShare (iblk m c 4 t) := by
  rw [← after_4]

/-- At a point of the first eight steps the output's staging buffer is handed back as it was found. -/
theorem leaves_5_idle (c : Dev nD) (t : Fin cfg0.N) (h : t.val % 12 ≤ 7) :
    (dats m 0 c).leavesExact 5 t = iprop(∃ d, owns (c : Thread nD τ) (stage5 t) fullShare ((dats m 0 c).before 5 t d)) :=
  Dat.leavesExact_idle _ 5 t ((idle_iff t).mpr h) (by
    rw [Bool.eq_false_iff]; exact fun hf => by have := (flush_iff t).mp hf; omega)

/-- At a tile's point the output's staging buffer is handed back at the tile. -/
theorem leaves_5_tile (c : Dev nD) (t : Fin cfg0.N) (h : 8 ≤ t.val % 12) :
    (dats m 0 c).leavesExact 5 t = owns (c : Thread nD τ) (stage5 t) fullShare (leftTile m c t) := by
  have hi : cfg0.idle 5 (grid0.coords t) = false := by
    rw [Bool.eq_false_iff]; exact fun hf => by have := (idle_iff t).mp hf; omega
  unfold Dat.leavesExact
  rw [hi, after_5]

/-- The body at a tile's point, whichever of the four tiles it is. -/
theorem body_tile (c : Dev nD) (t : Fin cfg0.N) (h : 8 ≤ t.val % 12) (arg2 : Memref sig .tc .vmem S1x1024x768 .f32) (harg2 : arg2.IsWhole)
    (arg3 : Memref sig .tc .vmem S1x1024x768 .f32) (harg3 : arg3.IsWhole)
    (arg4 : Memref sig .tc .vmem S1x2048x768 .f32) (harg4 : arg4.IsWhole)
    (arg5 : Memref sig .tc .vmem S1x1x1x2048 .f32) (harg5 : arg5.IsWhole)
    (arg6 : Memref sig .tc .vmem S1x1x1x2048 .f32) (harg6 : arg6.IsWhole)
    (arg7 : Memref sig .tc .vmem S1x2048x768 .f32) (harg7 : arg7.IsWhole)
    (arg8 : Memref sig .tc .vmem S2x128x768 .f32) (harg8 : arg8.IsWhole)
    (arg9 : Memref sig .tc .vmem S2x128x768 .bf16) (harg9 : arg9.IsWhole) :
    TileTriple (F := F) c (grid0.coords t) arg2 harg2 arg3 harg3 arg4 harg4 arg5 harg5 arg6 harg6 arg7 harg7 arg8 harg8 arg9 harg9 (t.val % 12 - 8) := by
  have n1 : ¬k0_cond1 (grid0.coords t) = 1#1 := fun hc => by have := (cond1_iff t).mp hc; omega
  rcases (by omega : t.val % 12 = 8 ∨ t.val % 12 = 9 ∨ t.val % 12 = 10 ∨ t.val % 12 = 11) with h8 | h9 | h10 | h11
  · rw [h8]
    exact body_tile0 c _ _ _ _ _ _ _ _ _ _ _ _ _ _ _ _ _ n1 ((cond2_iff t).mpr h8) (fun hc => by have := (cond3_iff t).mp hc; omega)
      (fun hc => by have := (cond4_iff t).mp hc; omega) (fun hc => by have := (cond5_iff t).mp hc; omega)
  · rw [h9]
    exact body_tile1 c _ _ _ _ _ _ _ _ _ _ _ _ _ _ _ _ _ n1 (fun hc => by have := (cond2_iff t).mp hc; omega) ((cond3_iff t).mpr h9)
      (fun hc => by have := (cond4_iff t).mp hc; omega) (fun hc => by have := (cond5_iff t).mp hc; omega)
  · rw [h10]
    exact body_tile2 c _ _ _ _ _ _ _ _ _ _ _ _ _ _ _ _ _ n1 (fun hc => by have := (cond2_iff t).mp hc; omega)
      (fun hc => by have := (cond3_iff t).mp hc; omega) ((cond4_iff t).mpr h10) (fun hc => by have := (cond5_iff t).mp hc; omega)
  · rw [h11]
    exact body_tile3 c _ _ _ _ _ _ _ _ _ _ _ _ _ _ _ _ _ n1 (fun hc => by have := (cond2_iff t).mp hc; omega)
      (fun hc => by have := (cond3_iff t).mp hc; omega) (fun hc => by have := (cond4_iff t).mp hc; omega) ((cond5_iff t).mpr h11)

set_option maxHeartbeats 4000000 in
/-- The body at any point: it keeps what is held, and leaves each buffer as the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [leaves_0, leaves_1, leaves_2, leaves_3, leaves_4,
    show (dats m 0 c).owesAt () t.succ = (dats m 0 c).owesAt () t.castSucc from rfl,
    show (dats m 0 c).Φ t.succ = held m c (t.val + 1) from rfl, show (dats m 0 c).Φ t.castSucc = held m c t.val from rfl]
  unfold held
  by_cases h : t.val % 12 ≤ 7
  · rw [leaves_5_idle m c t h]
    iintro ⟨⟨⟨%ck, %cv, %hF, HK, HV⟩, Hg⟩, Ho, ⟨%d0, H0⟩, ⟨%d1, H1⟩, H2, H3, H4, H5⟩
    iapply (body_compress c (grid0.coords t) _ _ _ _ _ _ _ _ _ _ _ _ _ _ _ _ ((cond1_iff t).mpr h)
      (fun hc => by have := (cond2_iff t).mp hc; omega) (fun hc => by have := (cond3_iff t).mp hc; omega)
      (fun hc => by have := (cond4_iff t).mp hc; omega) (fun hc => by have := (cond5_iff t).mp hc; omega)
      (iblk m c 0 t) (iblk m c 1 t) ck cv Set.univ _)
    isplitl [H0]; · iexact H0
    isplitl [H1]; · iexact H1
    isplitl [HK]; · iexact HK
    isplitl [HV]; · iexact HV
    rw [coord_entry, coord_step]
    iintro ⟨H0, H1, HK, HV⟩
    isplitl [HK HV Hg]
    · isplitl [HK HV]
      · iexists _; iexists _
        isplitr
        · ipureintro; exact filled_compress m c t h hF
        isplitl [HK]; · iexact HK
        iexact HV
      iexact Hg
    isplitl [Ho]; · iexact Ho
    isplitl [H0]; · iexact H0
    isplitl [H1]; · iexact H1
    isplitl [H2]; · icases H2 with ⟨%d2, H2⟩; iexact H2
    isplitl [H3]; · icases H3 with ⟨%d3, H3⟩; iexact H3
    isplitl [H4]; · icases H4 with ⟨%d4, H4⟩; iexact H4
    iexact H5
  · have h8 : 8 ≤ t.val % 12 := by omega
    rw [leaves_5_tile m c t h8]
    iintro ⟨⟨⟨%ck, %cv, %hF, HK, HV⟩, Hg⟩, Ho, H0, H1, ⟨%d2, H2⟩, ⟨%d3, H3⟩, ⟨%d4, H4⟩, ⟨%d5, H5⟩⟩
    iapply (body_tile c t h8 _ _ _ _ _ _ _ _ _ _ _ _ _ _ _ _ (iblk m c 2 t) (iblk m c 3 t) (iblk m c 4 t) ck cv Set.univ _)
    isplitl [H2]; · iexact H2
    isplitl [H3]; · iexact H3
    isplitl [H4]; · iexact H4
    isplitl [H5]; · iexists _; iexact H5
    isplitl [HK]; · iexact HK
    isplitl [HV]; · iexact HV
    rw [entryRows_keys m c t h8 (entry_lt t) hF, entryRows_vals m c t h8 (entry_lt t) hF]
    iintro ⟨H2, H3, H4, H5, HK, HV⟩
    isplitl [HK HV Hg]
    · isplitl [HK HV]
      · iexists _; iexists _
        isplitr
        · ipureintro; exact filled_tile m c t h8 hF
        isplitl [HK]; · iexact HK
        iexact HV
      iexact Hg
    isplitl [Ho]; · iexact Ho
    isplitl [H0]; · icases H0 with ⟨%d0, H0⟩; iexact H0
    isplitl [H1]; · icases H1 with ⟨%d1, H1⟩; iexact H1
    isplitl [H2]; · iexact H2
    isplitl [H3]; · iexact H3
    isplitl [H4]; · iexact H4
    iexact H5

/-- The body table's row at a point's slots is the body at that point. -/
theorem row_eq (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
/-- The launch: every execution ends, the arrays at what the proof data says, and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := outside_held m) (hout := fun c => held_outside m c _)

/-- The launch without the counters. -/
theorem run_post : θ_run defs (onTc (τ := τ) (main (F := F))) (s₀ m ρ) (Pipeline.FramePost cfgs (dats m) 0 (V m)) :=
  (θ_run defs _ _).mono (fun _ h => h.1) (run_quiescent m ρ)

/-- The frame claim: every execution ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_quiescent m ρ))

end Cert.KernelIdeal.Own

end
-- ==== Proof.Value.lean ====
/-
  What the kernel's run leaves in its result array, and what each window's block holds of the argument arrays.

  `keys_block`, `values_block`, `queries_block`, `cmp_block`, `slc_block`: a block at an index, as the argument array at
  the index it comes from. `final` and `run`: the result array ends as `resultOf`, each of its positions the tile of the
  point that writes it.
-/
module

public import proofs.«01_k».proof.Proof.Run
public import Idealize.ShloMosaic.Lib.Pipeline.Value
public import Idealize.ShloMosaic.Lib.Pointwise

@[expose] public section

set_option maxRecDepth 16384

noncomputable section

namespace Cert.KernelIdeal.Own

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F] [Named F]
variable (m : (ℓ : Loc nD τ sig) → Buf (Elt F) ℓ) (ρ : Dev nD → PrngReg)

/-! ## The block each window takes at a point -/

/-- The keys block of a point: one a step through the first eight steps, then the last one again. -/
theorem index_keys (t : Fin cfg0.N) : win0_0.index t 0 = t.val / 12 ∧ win0_0.index t 1 = min (t.val % 12) 7 ∧ win0_0.index t 2 = 0 :=
  (by decide +kernel : ∀ t : Fin grid0.N, win0_0.index t 0 = t.val / 12 ∧ win0_0.index t 1 = min (t.val % 12) 7 ∧ win0_0.index t 2 = 0) t
/-- The values block of a point, likewise. -/
theorem index_values (t : Fin cfg0.N) : win0_1.index t 0 = t.val / 12 ∧ win0_1.index t 1 = min (t.val % 12) 7 ∧ win0_1.index t 2 = 0 :=
  (by decide +kernel : ∀ t : Fin grid0.N, win0_1.index t 0 = t.val / 12 ∧ win0_1.index t 1 = min (t.val % 12) 7 ∧ win0_1.index t 2 = 0) t
/-- The queries block of a point: the first through the first eight steps, then one a step. -/
theorem index_queries (t : Fin cfg0.N) : win0_2.index t 0 = t.val / 12 ∧ win0_2.index t 1 = t.val % 12 - 8 ∧ win0_2.index t 2 = 0 :=
  (by decide +kernel : ∀ t : Fin grid0.N, win0_2.index t 0 = t.val / 12 ∧ win0_2.index t 1 = t.val % 12 - 8 ∧ win0_2.index t 2 = 0) t
/-- The compressed branch's gate block of a point, likewise. -/
theorem index_cmp (t : Fin cfg0.N) : win0_3.index t 0 = t.val / 12 ∧ win0_3.index t 1 = t.val % 12 - 8 ∧ win0_3.index t 2 = 0 ∧ win0_3.index t 3 = 0 :=
  (by decide +kernel : ∀ t : Fin grid0.N, win0_3.index t 0 = t.val / 12 ∧ win0_3.index t 1 = t.val % 12 - 8 ∧ win0_3.index t 2 = 0 ∧ win0_3.index t 3 = 0) t
/-- The selective branch's gate block of a point, likewise. -/
theorem index_slc (t : Fin cfg0.N) : win0_4.index t 0 = t.val / 12 ∧ win0_4.index t 1 = t.val % 12 - 8 ∧ win0_4.index t 2 = 0 ∧ win0_4.index t 3 = 0 :=
  (by decide +kernel : ∀ t : Fin grid0.N, win0_4.index t 0 = t.val / 12 ∧ win0_4.index t 1 = t.val % 12 - 8 ∧ win0_4.index t 2 = 0 ∧ win0_4.index t 3 = 0) t
/-- The result block of a point, likewise. -/
theorem index_result (t : Fin cfg0.N) : win0_5.index t 0 = t.val / 12 ∧ win0_5.index t 1 = t.val % 12 - 8 ∧ win0_5.index t 2 = 0 :=
  (by decide +kernel : ∀ t : Fin grid0.N, win0_5.index t 0 = t.val / 12 ∧ win0_5.index t 1 = t.val % 12 - 8 ∧ win0_5.index t 2 = 0) t

/-- The keys' block at one of the first eight steps: 1024 rows of the entry. -/
theorem keys_block (c : Dev nD) (t : Fin cfg0.N) (ht : t.val % 12 ≤ 7) (j : S1x1024x768.Idx) (i : S2x8192x768.Idx)
    (h0 : (i 0).val = t.val / 12) (h1 : (i 1).val = 1024 * (t.val % 12) + (j 1).val) (h2 : (i 2).val = (j 2).val) :
    (iblk m c 0 t : Vec F S1x1024x768 .f32) j = m (c.tc.loc main_arg1) i := by
  obtain ⟨e0, e1, e2⟩ := index_keys t
  unfold iblk
  rw [View.read_apply]
  show V m c main_arg1 _ = m (c.tc.loc main_arg1) i
  rw [V_main_arg1]
  congr 1
  funext a
  apply Fin.ext
  have hj : (j 0).val < 1 := (j 0).isLt
  match a with
  | ⟨0, _⟩ => show win0_0.index t 0 * 1 + 1 * (j 0).val = (i 0).val; omega
  | ⟨1, _⟩ => show win0_0.index t 1 * 1024 + 1 * (j 1).val = (i 1).val; omega
  | ⟨2, _⟩ => show win0_0.index t 2 * 768 + 1 * (j 2).val = (i 2).val; omega

/-- The values' block at one of the first eight steps: 1024 rows of the entry. -/
theorem values_block (c : Dev nD) (t : Fin cfg0.N) (ht : t.val % 12 ≤ 7) (j : S1x1024x768.Idx) (i : S2x8192x768.Idx)
    (h0 : (i 0).val = t.val / 12) (h1 : (i 1).val = 1024 * (t.val % 12) + (j 1).val) (h2 : (i 2).val = (j 2).val) :
    (iblk m c 1 t : Vec F S1x1024x768 .f32) j = m (c.tc.loc main_arg2) i := by
  obtain ⟨e0, e1, e2⟩ := index_values t
  unfold iblk
  rw [View.read_apply]
  show V m c main_arg2 _ = m (c.tc.loc main_arg2) i
  rw [V_main_arg2]
  congr 1
  funext a
  apply Fin.ext
  have hj : (j 0).val < 1 := (j 0).isLt
  match a with
  | ⟨0, _⟩ => show win0_1.index t 0 * 1 + 1 * (j 0).val = (i 0).val; omega
  | ⟨1, _⟩ => show win0_1.index t 1 * 1024 + 1 * (j 1).val = (i 1).val; omega
  | ⟨2, _⟩ => show win0_1.index t 2 * 768 + 1 * (j 2).val = (i 2).val; omega

/-- The queries' block at one of the last four steps: 2048 rows of the entry. -/
theorem queries_block (c : Dev nD) (t : Fin cfg0.N) (j : S1x2048x768.Idx) (i : S2x8192x768.Idx)
    (h0 : (i 0).val = t.val / 12) (h1 : (i 1).val = 2048 * (t.val % 12 - 8) + (j 1).val) (h2 : (i 2).val = (j 2).val) :
    (iblk m c 2 t : Vec F S1x2048x768 .f32) j = m (c.tc.loc main_arg0) i := by
  obtain ⟨e0, e1, e2⟩ := index_queries t
  unfold iblk
  rw [View.read_apply]
  show V m c main_arg0 _ = m (c.tc.loc main_arg0) i
  rw [V_main_arg0]
  congr 1
  funext a
  apply Fin.ext
  have hj : (j 0).val < 1 := (j 0).isLt
  match a with
  | ⟨0, _⟩ => show win0_2.index t 0 * 1 + 1 * (j 0).val = (i 0).val; omega
  | ⟨1, _⟩ => show win0_2.index t 1 * 2048 + 1 * (j 1).val = (i 1).val; omega
  | ⟨2, _⟩ => show win0_2.index t 2 * 768 + 1 * (j 2).val = (i 2).val; omega

/-- A gate reshaped to tiles of 2048, at an index. -/
theorem gate_reshaped (x : Vec F S2x8192 .f32) (k : S2x4x1x2048.Idx) (i : S2x8192.Idx)
    (h0 : (i 0).val = (k 0).val) (h1 : (i 1).val = 2048 * (k 1).val + (k 3).val) :
    shapeCast S2x4x1x2048 x shapeCasts_S2x8192_S2x4x1x2048 k = x i := by
  refine shapeCast_apply x _ k i ?_
  have h2 : (k 2).val < 1 := (k 2).isLt
  have e4 : (S2x4x1x2048.rowMajor k).val = (((k 0).val * 4 + (k 1).val) * 1 + (k 2).val) * 2048 + (k 3).val := Shape.rowMajor_val_four k
  have e2 : (S2x8192.rowMajor i).val = (i 0).val * 8192 + (i 1).val := Shape.rowMajor_val_two i
  omega

/-- The compressed gate's block at one of the last four steps: 2048 entries of the batch entry. -/
theorem cmp_block (c : Dev nD) (t : Fin cfg0.N) (j : S1x1x1x2048.Idx) (i : S2x8192.Idx)
    (h0 : (i 0).val = t.val / 12) (h1 : (i 1).val = 2048 * (t.val % 12 - 8) + (j 3).val) :
    (iblk m c 3 t : Vec F S1x1x1x2048 .f32) j = m (c.tc.loc main_arg3) i := by
  obtain ⟨e0, e1, e2, e3⟩ := index_cmp t
  unfold iblk
  rw [View.read_apply]
  show V m c main_call0_v0 _ = m (c.tc.loc main_arg3) i
  entry_read
  have hj : (j 0).val < 1 := (j 0).isLt
  have hj1 : (j 1).val < 1 := (j 1).isLt
  refine gate_reshaped _ _ i ?_ ?_
  · show (i 0).val = win0_3.index t 0 * 1 + 1 * (j 0).val; omega
  · show (i 1).val = 2048 * (win0_3.index t 1 * 1 + 1 * (j 1).val) + (win0_3.index t 3 * 2048 + 1 * (j 3).val); omega

/-- The selection gate's block at one of the last four steps: 2048 entries of the batch entry. -/
theorem slc_block (c : Dev nD) (t : Fin cfg0.N) (j : S1x1x1x2048.Idx) (i : S2x8192.Idx)
    (h0 : (i 0).val = t.val / 12) (h1 : (i 1).val = 2048 * (t.val % 12 - 8) + (j 3).val) :
    (iblk m c 4 t : Vec F S1x1x1x2048 .f32) j = m (c.tc.loc main_arg4) i := by
  obtain ⟨e0, e1, e2, e3⟩ := index_slc t
  unfold iblk
  rw [View.read_apply]
  show V m c main_call0_v1 _ = m (c.tc.loc main_arg4) i
  entry_read
  have hj : (j 0).val < 1 := (j 0).isLt
  have hj1 : (j 1).val < 1 := (j 1).isLt
  refine gate_reshaped _ _ i ?_ ?_
  · show (i 0).val = win0_4.index t 0 * 1 + 1 * (j 0).val; omega
  · show (i 1).val = 2048 * (win0_4.index t 1 * 1 + 1 * (j 1).val) + (win0_4.index t 3 * 2048 + 1 * (j 3).val); omega

/-! ## The result array -/

/-- The point that writes row `r` of batch entry `b`. -/
def writer (b : Fin 2) (r : Fin 8192) : Fin cfg0.N := point b.val (8 + r.val / 2048) b.isLt (by omega)

/-- The writer of a row is in the row's batch entry. -/
theorem writer_entry (b : Fin 2) (r : Fin 8192) : (writer b r).val / 12 = b.val := by
  show (12 * b.val + (8 + r.val / 2048)) / 12 = b.val; omega
/-- The writer of a row is at the step of the row's tile. -/
theorem writer_step (b : Fin 2) (r : Fin 8192) : (writer b r).val % 12 = 8 + r.val / 2048 := by
  show (12 * b.val + (8 + r.val / 2048)) % 12 = 8 + r.val / 2048; omega

/-- The result array: each row is a row of the tile left at the point that writes it. -/
def resultOf (c : Dev nD) : Buf (Elt F) ((c : Thread nD τ).loc main_v0) := fun (i : S2x8192x768.Idx) =>
  leftTile m c (writer (i 0) (i 1)) (ix3 (0 : Fin 1) (⟨(i 1).val % 2048, Nat.mod_lt _ (by norm_num)⟩ : Fin 2048) (i 2))

/-- The result array at a row of the tile left at point `t`. -/
theorem resultOf_at (c : Dev nD) (t : Fin cfg0.N) (h8 : 8 ≤ t.val % 12) (j : S1x2048x768.Idx) (i : S2x8192x768.Idx)
    (h0 : (i 0).val = t.val / 12) (h1 : (i 1).val = 2048 * (t.val % 12 - 8) + (j 1).val) (h2 : (i 2).val = (j 2).val) :
    resultOf m c i = leftTile m c t j := by
  have hj : (j 0).val < 1 := (j 0).isLt
  have hj1 : (j 1).val < 2048 := (j 1).isLt
  have ht : writer (i 0) (i 1) = t := by
    apply Fin.ext
    show 12 * (i 0).val + (8 + (i 1).val / 2048) = t.val
    omega
  show leftTile m c (writer (i 0) (i 1)) _ = leftTile m c t j
  refine congr (congrArg (leftTile m c) ht) (funext fun a => Fin.ext ?_)
  match a with
  | ⟨0, _⟩ => show 0 = (j 0).val; omega
  | ⟨1, _⟩ => show (i 1).val % 2048 = (j 1).val; omega
  | ⟨2, _⟩ => exact h2

/-- Each write-back writes the rows of `resultOf` it covers. -/
theorem flushed_eq (c : Dev nD) (t : Fin cfg0.N) (hf : (cfg0.win 5).flush t = true) :
    (dats m 0 c).flushed 5 t = ((cfg0.win 5).blk t).view.read (Elt F) (resultOf m c) := by
  have h8 := (flush_iff t).mp hf
  obtain ⟨e0, e1, e2⟩ := index_result t
  show (cfg0.win 5).cut (grid0.coords t) ((dats m 0 c).after 5 t) = _
  rw [after_5]
  funext (j : S1x2048x768.Idx)
  rw [View.read_apply]
  show leftTile m c t j = resultOf m c _
  have hj : (j 0).val < 1 := (j 0).isLt
  refine (resultOf_at m c t h8 j _ ?_ ?_ ?_).symm
  · show win0_5.index t 0 * 1 + 1 * (j 0).val = _; omega
  · show win0_5.index t 1 * 2048 + 1 * (j 1).val = _; omega
  · show win0_5.index t 2 * 768 + 1 * (j 2).val = _; omega

/-- The result array ends as `resultOf`. -/
theorem final (c : Dev nD) : (dats m 0 c).arrAt 5 cfg0.N = resultOf m c :=
  (dats m 0 c).arrAt_eq_of_cover 5 (resultOf m c) (flushed_eq m c) fun (i : S2x8192x768.Idx) =>
    ⟨writer (i 0) (i 1), (flush_iff _).mpr (le_of_le_of_eq (Nat.le_add_right 8 _) (writer_step (i 0) (i 1)).symm), by
      show i ∈ ((View.whole main_v0).slice (win0_5.rect (writer (i 0) (i 1)))).set
      rw [View.set_slice_whole, Rect.mem_set_unit]
      intro a
      obtain ⟨e0, e1, e2⟩ := index_result (writer (i 0) (i 1))
      replace e0 : _ = (i 0).val := e0.trans (writer_entry (i 0) (i 1))
      replace e1 : _ = (i 1).val / 2048 := e1.trans ((congrArg (· - 8) (writer_step (i 0) (i 1))).trans (Nat.add_sub_cancel_left 8 _))
      have h1 : (i 1 : Nat) < 8192 := (i 1).isLt
      have h2 : (i 2 : Nat) < 768 := (i 2).isLt
      match a with
      | ⟨0, _⟩ => show win0_5.index (writer (i 0) (i 1)) 0 * 1 ≤ (i 0 : Nat) ∧ (i 0 : Nat) < win0_5.index (writer (i 0) (i 1)) 0 * 1 + 1; omega
      | ⟨1, _⟩ => show win0_5.index (writer (i 0) (i 1)) 1 * 2048 ≤ (i 1 : Nat) ∧ (i 1 : Nat) < win0_5.index (writer (i 0) (i 1)) 1 * 2048 + 2048; omega
      | ⟨2, _⟩ => show win0_5.index (writer (i 0) (i 1)) 2 * 768 ≤ (i 2 : Nat) ∧ (i 2 : Nat) < win0_5.index (writer (i 0) (i 1)) 2 * 768 + 768; omega⟩

/-- The run, read: the result array ends as `resultOf`, the arguments unchanged. -/
theorem run : θ_run defs (onTc (τ := τ) (main (F := F))) ⟨m, fun _ => 0, ρ⟩ (fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final m c), h.2 c⟩)
    (θ_run_and (run_post m ρ) (frame_of m ρ (dats m) (A_eq m) (run_post m ρ)))

end Cert.KernelIdeal.Own

end
-- ==== Proof.Rounds.lean ====
/-
  The four tiles' stored expressions, written once over the number of rows kept.

  The kernel spells its fifteen rounds of maximum removal out, four times, over 32, 64, 96 and 128 rows. `roundV` is one
  round and `keptV` the kept entries after all of them; `tile0_eq` to `tile3_eq` say that each tile is its weights
  (`weightsV`, with the rows below the kept ones from `restV`) times the carried values, `productV`.
-/
module

public import proofs.«01_k».proof.Proof.Tiles

@[expose] public section

set_option maxRecDepth 16384

noncomputable section

namespace Cert.KernelIdeal.Own

open Idealize.ShloMosaic Idealize.ShloMosaic.TcCoe Cert.KernelIdeal Cert.KernelIdeal.Gen

variable {F : FTy → Type} [FloatOps F] [Named F]

/-- `R` rows of 2048 columns. -/
abbrev SR (R : ℕ) : Shape := ⟨2, ![R, 2048]⟩

variable {R : ℕ} (hr : (SR R).Reduces [0] S2048) (hb : S1x2048.Broadcasts (SR R))

/-- Every column's maximum, copied down the column. -/
def maxV (v : FVec F (SR R) .f32) : FVec F (SR R) .f32 :=
  broadcastTo (SR R) (shapeCast S1x2048 (multiReduction .maximumf [0] S2048 v 0xFF800000#32 hr (.inl rfl) rfl) shapeCasts_S2048_S1x2048) hb

/-- One round: the entries that reach their column's maximum become −1. -/
def roundV (v : FVec F (SR R) .f32) : FVec F (SR R) .f32 :=
  select (cmpf .oge v (maxV hr hb v)) (broadcast (SR R) (Scalar.ofBits .f32 0xBF800000#32)) v

/-- `k` rounds. -/
def roundsV (v : FVec F (SR R) .f32) : ℕ → FVec F (SR R) .f32
  | 0 => v
  | k + 1 => roundV hr hb (roundsV v k)

/-- The entries that reach the maximum left after fifteen rounds; the others are zero. -/
def keptV (v : FVec F (SR R) .f32) : FVec F (SR R) .f32 :=
  select (cmpf .oge v (maxV hr hb (roundsV hr hb v 15))) v (broadcast (SR R) (Scalar.ofBits .f32 0x00000000#32))

/-- Every column's sum, as a row. -/
def sumV (v : FVec F (SR R) .f32) : FVec F S1x2048 .f32 :=
  shapeCast S1x2048 (multiReduction .add [0] S2048 v 0x00000000#32 hr (.inl rfl) rfl) shapeCasts_S2048_S1x2048

/-- The kept rows' weights: all exponentials by the first gate over their sum, kept ones by the second over theirs. -/
def weightsV (e1 k2 : FVec F (SR R) .f32) (g1 g2 s1 s2 : FVec F S1x2048 .f32) : FVec F (SR R) .f32 :=
  addf (mulf e1 (broadcastTo (SR R) (divf g1 s1) hb)) (mulf k2 (broadcastTo (SR R) (divf g2 s2) hb))

/-- The weights of the rows that no query of the tile may select. -/
def restV (e1 : FVec F (SR R) .f32) (g1 s1 : FVec F S1x2048 .f32) : FVec F (SR R) .f32 :=
  mulf e1 (broadcastTo (SR R) (divf g1 s1) hb)

/-- The weights, transposed, times the carried values. -/
def productV (w : FVec F S128x2048 .f32) (cv : Vec F S1x128x768 .bf16) : FVec F S1x2048x768 .f32 :=
  shapeCast S1x2048x768 (matmul dot_S128x2048_S128x768_S2048x768_0_0_1_1_n_n none (truncf .bf16 w bitsLt_bf16_f32)
    (shapeCast S128x768 cv shapeCasts_S1x128x768_S128x768) (constant S2048x768 .f32 0x00000000#32)) shapeCasts_S2048x768_S1x2048x768

/-- All the exponentials of the scores. -/
def expV (q : Vec F S1x2048x768 .f32) (ck : Vec F S1x128x768 .f32) : FVec F S128x2048 .f32 :=
  exp (matmul dot_S128x768_S2048x768_S128x2048_1_1_0_0_n_n none (shapeCast S128x768 ck shapeCasts_S1x128x768_S128x768)
    (shapeCast S2048x768 q shapeCasts_S1x2048x768_S2048x768) (constant S128x2048 .f32 0x00000000#32))

/-- A gate as a row. -/
def gateV (g : Vec F S1x1x1x2048 .f32) : FVec F S1x2048 .f32 := shapeCast S1x2048 g shapeCasts_S1x1x1x2048_S1x2048

variable (q : Vec F S1x2048x768 .f32) (ck : Vec F S1x128x768 .f32) (cv : Vec F S1x128x768 .bf16) (gc gs : Vec F S1x1x1x2048 .f32)

/-- The first tile by its parts: 32 rows with both branches' weights over 96 with the compressed branch's alone. -/
theorem tile0_eq : tile0 q ck cv gc gs = productV (concatenate S128x2048 0
    [⟨S32x2048, weightsV (R := 32) broadcasts_S1x2048_S32x2048
        (extractStridedSlice S32x2048 ![0, 0] (expV q ck) slices_S128x2048_o0_0_S32x2048)
        (keptV reduces_S32x2048_S2048 broadcasts_S1x2048_S32x2048 (masked0 q ck)) (gateV gc) (gateV gs)
        (sumV (R := 128) reduces_S128x2048_S2048 (expV q ck)) (sumV (R := 32) reduces_S32x2048_S2048 (masked0 q ck))⟩,
     ⟨S96x2048, restV (R := 96) broadcasts_S1x2048_S96x2048
        (extractStridedSlice S96x2048 ![32, 0] (expV q ck) slices_S128x2048_o32_0_S96x2048) (gateV gc)
        (sumV (R := 128) reduces_S128x2048_S2048 (expV q ck))⟩]
    concatenates_S32x2048_S96x2048_S128x2048_d0) cv := rfl

/-- The second tile by its parts: 64 rows over 64. -/
theorem tile1_eq : tile1 q ck cv gc gs = productV (concatenate S128x2048 0
    [⟨S64x2048, weightsV (R := 64) broadcasts_S1x2048_S64x2048
        (extractStridedSlice S64x2048 ![0, 0] (expV q ck) slices_S128x2048_o0_0_S64x2048)
        (keptV reduces_S64x2048_S2048 broadcasts_S1x2048_S64x2048 (masked1 q ck)) (gateV gc) (gateV gs)
        (sumV (R := 128) reduces_S128x2048_S2048 (expV q ck)) (sumV (R := 64) reduces_S64x2048_S2048 (masked1 q ck))⟩,
     ⟨S64x2048, restV (R := 64) broadcasts_S1x2048_S64x2048
        (extractStridedSlice S64x2048 ![64, 0] (expV q ck) slices_S128x2048_o64_0_S64x2048) (gateV gc)
        (sumV (R := 128) reduces_S128x2048_S2048 (expV q ck))⟩]
    concatenates_S64x2048_S64x2048_S128x2048_d0) cv := rfl

/-- The third tile by its parts: 96 rows over 32. -/
theorem tile2_eq : tile2 q ck cv gc gs = productV (concatenate S128x2048 0
    [⟨S96x2048, weightsV (R := 96) broadcasts_S1x2048_S96x2048
        (extractStridedSlice S96x2048 ![0, 0] (expV q ck) slices_S128x2048_o0_0_S96x2048)
        (keptV reduces_S96x2048_S2048 broadcasts_S1x2048_S96x2048 (masked2 q ck)) (gateV gc) (gateV gs)
        (sumV (R := 128) reduces_S128x2048_S2048 (expV q ck)) (sumV (R := 96) reduces_S96x2048_S2048 (masked2 q ck))⟩,
     ⟨S32x2048, restV (R := 32) broadcasts_S1x2048_S32x2048
        (extractStridedSlice S32x2048 ![96, 0] (expV q ck) slices_S128x2048_o96_0_S32x2048) (gateV gc)
        (sumV (R := 128) reduces_S128x2048_S2048 (expV q ck))⟩]
    concatenates_S96x2048_S32x2048_S128x2048_d0) cv := rfl

/-- The last tile by its parts: all 128 rows have both branches' weights. -/
theorem tile3_eq : tile3 q ck cv gc gs = productV
    (weightsV (R := 128) broadcasts_S1x2048_S128x2048 (expV q ck)
        (keptV reduces_S128x2048_S2048 broadcasts_S1x2048_S128x2048 (masked3 q ck)) (gateV gc) (gateV gs)
        (sumV (R := 128) reduces_S128x2048_S2048 (expV q ck)) (sumV (R := 128) reduces_S128x2048_S2048 (masked3 q ck))) cv := rfl

end Cert.KernelIdeal.Own

end
-- ==== Proof.Threshold.lean ====
/-
  Finding the sixteenth largest entry of a column by repeated removal of the maximum.

  `strip` replaces every entry that reaches the column's maximum by a spent mark below all entries, and `threshold` is
  the maximum left after fifteen such rounds. `keep_of_decreasing`: when sixteen entries stand strictly above all the others
  and differ among themselves, the entries reaching the threshold are those sixteen. `keep_of_few`: when at most sixteen
  entries are positive, every positive entry reaches the threshold.
-/
module

public import Mathlib.Data.Finset.Fold
public import Mathlib.Data.Finset.Max
public import Mathlib.Data.Fintype.Card
public import Mathlib.Order.Fin.Basic

@[expose] public section

namespace Cert.KernelIdeal.Own

variable {ι α : Type} [Fintype ι] [LinearOrder α] [OrderBot α]

/-- The largest entry of a column. -/
def colMax (v : ι → α) : α := Finset.univ.fold max ⊥ v

/-- Every entry is at most the maximum. -/
theorem le_colMax (v : ι → α) (n : ι) : v n ≤ colMax v :=
  Finset.le_fold_max _ |>.mpr (Or.inr ⟨n, Finset.mem_univ n, le_refl _⟩)

/-- A bound on every entry bounds the maximum. -/
theorem colMax_le (v : ι → α) (x : α) (h : ∀ n, v n ≤ x) : colMax v ≤ x :=
  Finset.fold_max_le _ |>.mpr ⟨bot_le, fun n _ => h n⟩

/-- One round: the entries that reach the maximum become the spent mark `c`. -/
def strip (c : α) (v : ι → α) : ι → α := fun n => if colMax v ≤ v n then c else v n

/-- The column after `k` rounds. -/
def stripped (c : α) (e : ι → α) : ℕ → ι → α
  | 0 => e
  | k + 1 => strip c (stripped c e k)

/-- The maximum left after fifteen rounds. -/
def threshold (c : α) (e : ι → α) : α := colMax (stripped c e 15)

/-! ## Sixteen entries standing strictly above the others -/

/-- With the sixteen largest entries in strictly decreasing order `σ`, `k` rounds spend the first `k` of them. -/
theorem stripped_of_decreasing [DecidableEq ι] (c : α) (e : ι → α) (hc : ∀ n, c < e n) (σ : Fin 16 → ι)
    (hσ : ∀ i j, i < j → e (σ j) < e (σ i)) (hrest : ∀ n, (∀ i, σ i ≠ n) → e n < e (σ 15)) (k : ℕ) (hk : k ≤ 15) :
    (∀ n, stripped c e k n = if ∃ i : Fin 16, i.val < k ∧ σ i = n then c else e n)
      ∧ colMax (stripped c e k) = e (σ ⟨k, by omega⟩) := by
  induction k with
  | zero =>
    have h0 : ∀ n, stripped c e 0 n = if ∃ i : Fin 16, i.val < 0 ∧ σ i = n then c else e n := by
      intro n; rw [if_neg (by simp)]; rfl
    refine ⟨h0, le_antisymm (colMax_le _ _ fun n => ?_) (le_colMax (stripped c e 0) _)⟩
    show e n ≤ e (σ 0)
    by_cases hn : ∃ i, σ i = n
    · obtain ⟨i, rfl⟩ := hn
      rcases Fin.eq_zero_or_eq_succ i with rfl | ⟨j, rfl⟩
      · exact le_refl _
      · exact (hσ 0 j.succ (Fin.succ_pos j)).le
    · exact (hrest n fun i hi => hn ⟨i, hi⟩).le.trans (hσ 0 15 (by decide)).le
  | succ k ih =>
    obtain ⟨hv, hm⟩ := ih (by omega)
    have hs : ∀ n, stripped c e (k + 1) n = if ∃ i : Fin 16, i.val < k + 1 ∧ σ i = n then c else e n := by
      intro n
      show (if colMax (stripped c e k) ≤ stripped c e k n then c else stripped c e k n) = _
      rw [hm, hv n]
      by_cases h1 : ∃ i : Fin 16, i.val < k ∧ σ i = n
      · obtain ⟨i, hi, rfl⟩ := h1
        have ha : ∃ j : Fin 16, j.val < k ∧ σ j = σ i := ⟨i, hi, rfl⟩
        have hb : ∃ j : Fin 16, j.val < k + 1 ∧ σ j = σ i := ⟨i, by omega, rfl⟩
        rw [if_pos ha, if_pos hb, if_neg (not_le.mpr (hc _))]
      · rw [if_neg h1]
        by_cases h2 : ∃ i : Fin 16, i.val < k + 1 ∧ σ i = n
        · rw [if_pos h2]
          obtain ⟨i, hi, rfl⟩ := h2
          have hge : ¬ i.val < k := fun h => h1 ⟨i, h, rfl⟩
          have hik : i.val = k := by omega
          have : i = ⟨k, by omega⟩ := Fin.ext hik
          rw [if_pos (by rw [this])]
        · rw [if_neg h2, if_neg]
          refine not_le.mpr ?_
          by_cases hn : ∃ i, σ i = n
          · obtain ⟨i, rfl⟩ := hn
            exact hσ _ _ (Fin.lt_def.mpr (by
              have : ¬ i.val < k + 1 := fun h => h2 ⟨i, h, rfl⟩
              show k < i.val; omega))
          · refine (hrest n fun i hi => hn ⟨i, hi⟩).trans_le ?_
            rcases eq_or_lt_of_le (show (⟨k, by omega⟩ : Fin 16) ≤ 15 from Fin.le_last _) with h | h
            · rw [h]
            · exact (hσ _ _ h).le
    refine ⟨hs, le_antisymm (colMax_le _ _ fun n => ?_) ?_⟩
    · rw [hs n]
      by_cases h2 : ∃ i : Fin 16, i.val < k + 1 ∧ σ i = n
      · rw [if_pos h2]; exact (hc _).le
      · rw [if_neg h2]
        by_cases hn : ∃ i, σ i = n
        · obtain ⟨i, rfl⟩ := hn
          have hi : ¬ i.val < k + 1 := fun h => h2 ⟨i, h, rfl⟩
          rcases eq_or_lt_of_le (show (⟨k + 1, by omega⟩ : Fin 16) ≤ i from Fin.le_def.mpr (by show k + 1 ≤ i.val; omega)) with h | h
          · rw [← h]
          · exact (hσ _ _ h).le
        · refine (hrest n fun i hi => hn ⟨i, hi⟩).le.trans ?_
          rcases eq_or_lt_of_le (show (⟨k + 1, by omega⟩ : Fin 16) ≤ 15 from Fin.le_last _) with h | h
          · rw [h]
          · exact (hσ _ _ h).le
    · have hinj : ∀ i : Fin 16, i.val < k + 1 → σ i ≠ σ ⟨k + 1, by omega⟩ := by
        intro i hi he
        have := hσ i ⟨k + 1, by omega⟩ (Fin.lt_def.mpr hi)
        rw [he] at this
        exact lt_irrefl _ this
      have h := le_colMax (stripped c e (k + 1)) (σ ⟨k + 1, by omega⟩)
      rw [hs (σ ⟨k + 1, by omega⟩), if_neg (fun ⟨i, hi, he⟩ => hinj i hi he)] at h
      exact h

/-- Then the entries that reach the threshold are the sixteen largest. -/
theorem keep_of_decreasing [DecidableEq ι] (c : α) (e : ι → α) (hc : ∀ n, c < e n) (σ : Fin 16 → ι)
    (hσ : ∀ i j, i < j → e (σ j) < e (σ i)) (hrest : ∀ n, (∀ i, σ i ≠ n) → e n < e (σ 15)) (n : ι) :
    threshold c e ≤ e n ↔ ∃ i, σ i = n := by
  have ht : threshold c e = e (σ 15) := (stripped_of_decreasing c e hc σ hσ hrest 15 (le_refl _)).2
  rw [ht]
  refine ⟨fun h => ?_, ?_⟩
  · by_contra hn
    exact absurd (hrest n fun i hi => hn ⟨i, hi⟩) (not_lt.mpr h)
  · rintro ⟨i, rfl⟩
    rcases eq_or_lt_of_le (show i ≤ 15 from Fin.le_last _) with h | h
    · rw [h]
    · exact (hσ _ _ h).le

/-! ## At most sixteen positive entries -/

/-- After any number of rounds an entry is what it was or spent, and no entry left exceeds a spent one. -/
theorem stripped_spent (c : α) (e : ι → α) (hc : ∀ n, c < e n) (k : ℕ) (n : ι) :
    stripped c e k n = e n ∨ (stripped c e k n = c ∧ ∀ n', stripped c e k n' ≤ e n) := by
  induction k generalizing n with
  | zero => exact Or.inl rfl
  | succ k ih =>
    have hle : ∀ n', stripped c e (k + 1) n' ≤ stripped c e k n' := by
      intro n'
      show (if colMax (stripped c e k) ≤ stripped c e k n' then c else stripped c e k n') ≤ _
      split
      · rcases ih n' with h | h
        · rw [h]; exact (hc n').le
        · rw [h.1]
      · exact le_refl _
    have hn : stripped c e (k + 1) n = if colMax (stripped c e k) ≤ stripped c e k n then c else stripped c e k n := rfl
    rcases ih n with h | h
    · by_cases hm : colMax (stripped c e k) ≤ stripped c e k n
      · right
        rw [hn, if_pos hm]
        exact ⟨rfl, fun n' => (hle n').trans ((le_colMax _ n').trans (hm.trans_eq h))⟩
      · left; rw [hn, if_neg hm, h]
    · right
      refine ⟨?_, fun n' => (hle n').trans (h.2 n')⟩
      rw [hn, h.1]; split <;> rfl

/-- Each round spends at least one positive entry while there is one. -/
theorem card_positive (z c : α) (hz : c < z) (e : ι → α) (k : ℕ) :
    (Finset.univ.filter fun n => z < stripped c e k n).card ≤ (Finset.univ.filter fun n => z < e n).card - k := by
  induction k with
  | zero => exact le_refl _
  | succ k ih =>
    have hsub : (Finset.univ.filter fun n => z < stripped c e (k + 1) n) ⊆ Finset.univ.filter fun n => z < stripped c e k n := by
      intro n hn
      rw [Finset.mem_filter] at hn ⊢
      refine ⟨hn.1, ?_⟩
      have h := hn.2
      change z < (if colMax (stripped c e k) ≤ stripped c e k n then c else stripped c e k n) at h
      split at h
      · exact absurd h (not_lt.mpr hz.le)
      · exact h
    by_cases hne : (Finset.univ.filter fun n => z < stripped c e k n).Nonempty
    · obtain ⟨n, hn, hmax⟩ := Finset.exists_max_image _ (stripped c e k) hne
      have hpos := (Finset.mem_filter.mp hn).2
      have htop : colMax (stripped c e k) ≤ stripped c e k n := colMax_le _ _ fun n' => by
        by_cases h' : z < stripped c e k n'
        · exact hmax n' (Finset.mem_filter.mpr ⟨Finset.mem_univ _, h'⟩)
        · exact (not_lt.mp h').trans hpos.le
      have hnot : n ∉ Finset.univ.filter fun n => z < stripped c e (k + 1) n := by
        rw [Finset.mem_filter]
        rintro ⟨-, h⟩
        change z < (if colMax (stripped c e k) ≤ stripped c e k n then c else stripped c e k n) at h
        rw [if_pos htop] at h
        exact absurd h (not_lt.mpr hz.le)
      have hlt := Finset.card_lt_card (Finset.ssubset_iff_subset_ne.mpr ⟨hsub, fun h => hnot (h ▸ hn)⟩)
      omega
    · rw [Finset.not_nonempty_iff_eq_empty] at hne
      rw [hne, Finset.subset_empty] at hsub
      rw [hsub]; exact Nat.zero_le _

/-- When at most sixteen entries are positive, every positive entry reaches the threshold. -/
theorem keep_of_few (z c : α) (hz : c < z) (e : ι → α) (he : ∀ n, z ≤ e n)
    (hfew : (Finset.univ.filter fun n => z < e n).card ≤ 16) (n : ι) (hn : z < e n) : threshold c e ≤ e n := by
  refine colMax_le _ _ fun n' => ?_
  rcases stripped_spent c e (fun n => hz.trans_le (he n)) 15 n with h | h
  · have hcard := card_positive z c hz e 15
    by_cases h' : z < stripped c e 15 n'
    · have h1 : (Finset.univ.filter fun n => z < stripped c e 15 n).card ≤ 1 := by omega
      have := Finset.card_le_one.mp h1 n' (Finset.mem_filter.mpr ⟨Finset.mem_univ _, h'⟩) n
        (Finset.mem_filter.mpr ⟨Finset.mem_univ _, by rw [h]; exact hn⟩)
      rw [this, h]
    · exact (not_lt.mp h').trans hn.le
  · exact h.2 n'

end Cert.KernelIdeal.Own

end
-- ==== Proof.Words.lean ====
/-
  The words both programs compute with, read as numbers: three constants, and the block of 64 rows that a row lies in.
-/
module

public import Idealize.ShloMosaic.Lib.Pointwise
public import Idealize.ShloMosaic.Lib.WordCmp

@[expose] public section

set_option maxRecDepth 16384

noncomputable section

namespace Cert.KernelIdeal.Own

open Idealize.ShloMosaic Idealize.ShloMosaic.TcCoe

/-! ## The constants -/

/-- The word of −∞ denotes −∞. -/
theorem negInf : Ideal.ofBits .f32 0xFF800000#32 = (⊥ : EReal) := by
  simp [Ideal.ofBits, Ideal.ieee]
/-- The word of −1 denotes −1. -/
theorem minusOne : Ideal.ofBits .f32 0xBF800000#32 = ((-1 : ℝ) : EReal) := by
  simp [Ideal.ofBits, Ideal.ieee, -EReal.coe_mul]; norm_num
/-- The word of 64 denotes 64. -/
theorem sixtyFour : Ideal.ofBits .f32 0x42800000#32 = ((64 : ℝ) : EReal) := by
  simp [Ideal.ofBits, Ideal.ieee, -EReal.coe_mul]; norm_num

/-! ## The block a query lies in -/

/-- The kernel's floored quotient of a word by 64, on the words. -/
def blockWord (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

/-- On the rows of a batch entry it is the quotient. -/
theorem blockWord_eq (t : ℕ) (ht : t < 8192) : blockWord (BitVec.ofNat 32 t) = BitVec.ofNat 32 (t / 64) :=
  (by decide +kernel : ∀ t : Fin 8192, blockWord (BitVec.ofNat 32 t.val) = BitVec.ofNat 32 (t.val / 64)) ⟨t, ht⟩

/-- Row `n` against the block of row `o + x`: a select on the words' comparison is a choice on the numbers'. -/
theorem select_visible {α : Type} (n x o : ℕ) (hn : n < 128) (hx : x < 2048) (ho : o ≤ 6144) (a b : α) :
    Scalar.select (IntOp.cmpi .sle (BitVec.ofNat 32 n) (blockWord (IntOp.addi (BitVec.ofNat 32 x) (BitVec.ofNat 32 o)))) a b
      = if n ≤ (o + x) / 64 then a else b := by
  have h : IntOp.addi (BitVec.ofNat 32 x) (BitVec.ofNat 32 o) = BitVec.ofNat 32 (o + x) := by
    rw [Nat.add_comm, BitVec.ofNat_add]; rfl
  rw [h, blockWord_eq _ (by omega), WordCmp.cmpi_sle_ofNat (by omega) (by omega)]
  by_cases hv : n ≤ (o + x) / 64 <;> simp [hv, Scalar.select]

/-- A word's sign. -/
def signWord (w : BitVec 32) : BitVec 32 := if w = 0 then 0 else if w.msb then -1 else 1

/-- The host's floored quotient of a word by 64, on the words. -/
def hostBlockWord (w : BitVec 32) : BitVec 32 :=
  Scalar.select
    (IntOp.andi (IntOp.cmpi .ne (signWord w) (signWord 64#32)) (IntOp.cmpi .ne (IntOp.remsi .host w 64#32) 0#32))
    (IntOp.subi (IntOp.divsi .host w 64#32) 1#32)
    (IntOp.divsi .host w 64#32)

/-- On the rows of a batch entry it is the quotient. -/
theorem hostBlockWord_eq (t : ℕ) (ht : t < 8192) : hostBlockWord (BitVec.ofNat 32 t) = BitVec.ofNat 32 (t / 64) :=
  (by decide +kernel : ∀ t : Fin 8192, hostBlockWord (BitVec.ofNat 32 t.val) = BitVec.ofNat 32 (t.val / 64)) ⟨t, ht⟩

/-- The host hides block `n` from the rows of earlier blocks. -/
theorem select_hidden {α : Type} (n t : ℕ) (hn : n < 128) (ht : t < 8192) (a b : α) :
    Scalar.select (IntOp.cmpi .slt (hostBlockWord (BitVec.ofNat 32 t)) (BitVec.ofNat 32 n)) a b
      = if n ≤ t / 64 then b else a := by
  rw [hostBlockWord_eq _ ht, WordCmp.cmpi_slt_ofNat (by omega) (by omega)]
  by_cases hv : n ≤ t / 64
  · rw [if_pos hv, decide_eq_false (by omega)]; rfl
  · rw [if_neg hv, decide_eq_true (by omega)]; rfl

/-- The test that a row's block is among the first sixteen. -/
theorem early_block (t : ℕ) (ht : t < 8192) :
    IntOp.cmpi .slt (hostBlockWord (BitVec.ofNat 32 t)) 16#32 = BitVec.ofBool (decide (t / 64 < 16)) := by
  rw [hostBlockWord_eq _ ht]
  exact WordCmp.cmpi_slt_ofNat (w := 32) (b := 16) (by omega) (by omega)

end Cert.KernelIdeal.Own

end
-- ==== Proof.TileRead.lean ====
/-
  The tiles' stored expressions read at an index, over the extended reals.
-/
module

public import proofs.«01_k».proof.Proof.Rounds
public import proofs.«01_k».proof.Proof.Threshold
public import proofs.«01_k».proof.Proof.Words
public import Idealize.ShloMosaic.Lib.Pointwise
public import Idealize.ShloMosaic.Lib.Pointwise.IndexVar

@[expose] public section

set_option maxRecDepth 16384

noncomputable section

namespace Cert.KernelIdeal.Own

open Idealize.ShloMosaic Idealize.ShloMosaic.TcCoe Cert.KernelIdeal Cert.KernelIdeal.Gen

/-! ## The tiles' parts -/

variable {R : ℕ} (hr : (SR R).Reduces [0] S2048) (hb : S1x2048.Broadcasts (SR R))

/-- The maximum of a column, read at any row. -/
theorem maxV_apply (v : FVec Ideal (SR R) .f32) (n : Fin R) (x : Fin 2048) :
    maxV hr hb v (ix2 n x) = colMax fun n' : Fin R => v (ix2 n' x) := by
  pointwise [maxV]
  rw [negInf]
  rfl

/-- The sum of a column. -/
theorem sumV_apply (v : FVec Ideal (SR R) .f32) (x : Fin 2048) :
    sumV hr v (ix2 (0 : Fin 1) x) = ∑ n' : Fin R, v (ix2 n' x) := by
  pointwise [sumV]

/-- An exponential of a score. -/
theorem expV_apply (q : Vec Ideal S1x2048x768 .f32) (ck : Vec Ideal S1x128x768 .f32) (n : Fin 128) (x : Fin 2048) :
    expV q ck (ix2 n x) = Ideal.exp (∑ d : Fin 768, ck (ix3 (0 : Fin 1) n d) * q (ix3 (0 : Fin 1) x d)) := by
  pointwise [expV]

/-- An entry of the product: the column's weights against the carried values. -/
theorem productV_apply (w : FVec Ideal S128x2048 .f32) (cv : Vec Ideal S1x128x768 .bf16) (x : Fin 2048) (d : Fin 768) :
    productV w cv (ix3 (0 : Fin 1) x d) = ∑ n : Fin 128, w (ix2 n x) * cv (ix3 (0 : Fin 1) n d) := by
  pointwise [productV]

/-- The first tile's masked exponentials: row `n` shows where it is at most the query's block. -/
theorem masked0_apply (q : Vec Ideal S1x2048x768 .f32) (ck : Vec Ideal S1x128x768 .f32) (n : Fin 32) (x : Fin 2048) :
    masked0 q ck (ix2 n x) = if n.val ≤ (0 + x.val) / 64 then expV q ck (ix2 (⟨n.val, by omega⟩ : Fin 128) x) else 0 := by
  rw [← select_visible n.val x.val 0 (by omega) x.isLt (by omega)]
  have he : k0_pay10 (F := Ideal) q ck = expV q ck := rfl
  pointwise [masked0, k0_pay16, k0_pay12, k0_pay13, k0_pay14, k0_pay15, rows32]
  rw [he]
  rfl

/-- The second tile's masked exponentials. -/
theorem masked1_apply (q : Vec Ideal S1x2048x768 .f32) (ck : Vec Ideal S1x128x768 .f32) (n : Fin 64) (x : Fin 2048) :
    masked1 q ck (ix2 n x) = if n.val ≤ (2048 + x.val) / 64 then expV q ck (ix2 (⟨n.val, by omega⟩ : Fin 128) x) else 0 := by
  rw [← select_visible n.val x.val 2048 (by omega) x.isLt (by omega)]
  have he : k0_pay25 (F := Ideal) q ck = expV q ck := rfl
  pointwise [masked1, k0_pay31, k0_pay27, k0_pay28, k0_pay29, k0_pay30, rows64]
  rw [he]
  rfl

/-- The third tile's masked exponentials. -/
theorem masked2_apply (q : Vec Ideal S1x2048x768 .f32) (ck : Vec Ideal S1x128x768 .f32) (n : Fin 96) (x : Fin 2048) :
    masked2 q ck (ix2 n x) = if n.val ≤ (4096 + x.val) / 64 then expV q ck (ix2 (⟨n.val, by omega⟩ : Fin 128) x) else 0 := by
  rw [← select_visible n.val x.val 4096 (by omega) x.isLt (by omega)]
  have he : k0_pay40 (F := Ideal) q ck = expV q ck := rfl
  pointwise [masked2, k0_pay46, k0_pay42, k0_pay43, k0_pay44, k0_pay45, rows96]
  rw [he]
  rfl

/-- The last tile's masked exponentials. -/
theorem masked3_apply (q : Vec Ideal S1x2048x768 .f32) (ck : Vec Ideal S1x128x768 .f32) (n : Fin 128) (x : Fin 2048) :
    masked3 q ck (ix2 n x) = if n.val ≤ (6144 + x.val) / 64 then expV q ck (ix2 n x) else 0 := by
  rw [← select_visible n.val x.val 6144 (by omega) x.isLt (by omega)]
  have he : k0_pay55 (F := Ideal) q ck = expV q ck := rfl
  pointwise [masked3, k0_pay61, k0_pay57, k0_pay58, k0_pay59, k0_pay60, rows128]
  rw [he]
  rfl

/-- One round, read at an index: the column's own round. -/
theorem roundV_apply (v : FVec Ideal (SR R) .f32) (n : Fin R) (x : Fin 2048) :
    roundV hr hb v (ix2 n x) = strip ((-1 : ℝ) : EReal) (fun n' : Fin R => v (ix2 n' x)) n := by
  pointwise [roundV]
  rw [maxV_apply, minusOne]
  rfl

/-- All the rounds, read at an index. -/
theorem roundsV_apply (v : FVec Ideal (SR R) .f32) (k : ℕ) (n : Fin R) (x : Fin 2048) :
    roundsV hr hb v k (ix2 n x) = stripped ((-1 : ℝ) : EReal) (fun n' : Fin R => v (ix2 n' x)) k n := by
  induction k generalizing n with
  | zero => rfl
  | succ k ih =>
    show roundV hr hb (roundsV hr hb v k) (ix2 n x) = _
    rw [roundV_apply]
    simp only [ih]
    rfl

/-- The kept entries, read at an index: those that reach the column's threshold. -/
theorem keptV_apply (v : FVec Ideal (SR R) .f32) (n : Fin R) (x : Fin 2048) :
    keptV hr hb v (ix2 n x)
      = if threshold ((-1 : ℝ) : EReal) (fun n' : Fin R => v (ix2 n' x)) ≤ v (ix2 n x) then v (ix2 n x) else 0 := by
  pointwise [keptV]
  rw [maxV_apply]
  simp only [roundsV_apply]
  rfl

/-- The weights, read at an index. -/
theorem weightsV_apply (e1 k2 : FVec Ideal (SR R) .f32) (g1 g2 s1 s2 : FVec Ideal S1x2048 .f32) (n : Fin R) (x : Fin 2048) :
    weightsV hb e1 k2 g1 g2 s1 s2 (ix2 n x) = e1 (ix2 n x) * Ideal.div (g1 (ix2 (0 : Fin 1) x)) (s1 (ix2 (0 : Fin 1) x))
      + k2 (ix2 n x) * Ideal.div (g2 (ix2 (0 : Fin 1) x)) (s2 (ix2 (0 : Fin 1) x)) := by
  pointwise [weightsV]

/-- A weight of the compressed branch alone. -/
theorem restV_apply (e1 : FVec Ideal (SR R) .f32) (g1 s1 : FVec Ideal S1x2048 .f32) (n : Fin R) (x : Fin 2048) :
    restV hb e1 g1 s1 (ix2 n x) = e1 (ix2 n x) * Ideal.div (g1 (ix2 (0 : Fin 1) x)) (s1 (ix2 (0 : Fin 1) x)) := by
  pointwise [restV]

/-- A gate's entry. -/
theorem gateV_apply (g : Vec Ideal S1x1x1x2048 .f32) (x : Fin 2048) :
    gateV g (ix2 (0 : Fin 1) x) = g (ix4 (0 : Fin 1) (0 : Fin 1) (0 : Fin 1) x) := by
  pointwise [gateV]

/-! ## A tile, read at an index -/

/-- One entry of the result over a column: exponentials `E` of which the rows up to `a` show, `R` rows kept, gates `g1`
    and `g2`, values `v`. -/
def columnOut (R : ℕ) (hR : R ≤ 128) (a : ℕ) (E : Fin 128 → EReal) (g1 g2 : EReal) (v : Fin 128 → EReal) : EReal :=
  let e : Fin R → EReal := fun n => if n.val ≤ a then E (n.castLE hR) else 0
  ∑ n : Fin 128, (if h : n.val < R then
      E n * Ideal.div g1 (∑ n, E n)
        + (if threshold ((-1 : ℝ) : EReal) e ≤ e ⟨n.val, h⟩ then e ⟨n.val, h⟩ else 0) * Ideal.div g2 (∑ n, e n)
    else E n * Ideal.div g1 (∑ n, E n)) * v n

variable (q : Vec Ideal S1x2048x768 .f32) (ck : Vec Ideal S1x128x768 .f32) (cv : Vec Ideal S1x128x768 .bf16)
  (gc gs : Vec Ideal S1x1x1x2048 .f32) (x : Fin 2048) (d : Fin 768)

/-- A kept row's weight, for masked exponentials `v` and a slice `e1` of all the exponentials. -/
theorem weight_kept (hR : R ≤ 128) (a : ℕ) (v e1 : FVec Ideal (SR R) .f32)
    (hv : ∀ n : Fin R, v (ix2 n x) = if n.val ≤ a then expV q ck (ix2 (n.castLE hR) x) else 0) (n : Fin R)
    (h1 : e1 (ix2 n x) = expV q ck (ix2 (n.castLE hR) x)) :
    weightsV hb e1 (keptV hr hb v) (gateV gc) (gateV gs) (sumV (R := 128) reduces_S128x2048_S2048 (expV q ck)) (sumV hr v) (ix2 n x)
      = expV q ck (ix2 (n.castLE hR) x) * Ideal.div (gc (ix4 (0 : Fin 1) (0 : Fin 1) (0 : Fin 1) x)) (∑ n : Fin 128, expV q ck (ix2 n x))
        + (if threshold ((-1 : ℝ) : EReal) (fun n : Fin R => if n.val ≤ a then expV q ck (ix2 (n.castLE hR) x) else 0)
              ≤ (if n.val ≤ a then expV q ck (ix2 (n.castLE hR) x) else 0)
            then (if n.val ≤ a then expV q ck (ix2 (n.castLE hR) x) else 0) else 0)
          * Ideal.div (gs (ix4 (0 : Fin 1) (0 : Fin 1) (0 : Fin 1) x)) (∑ n : Fin R, if n.val ≤ a then expV q ck (ix2 (n.castLE hR) x) else 0) := by
  rw [weightsV_apply, keptV_apply, gateV_apply, gateV_apply, sumV_apply, sumV_apply, h1]
  simp only [hv]

/-- Another row's weight. -/
theorem weight_rest (e1 : FVec Ideal (SR R) .f32) (n : Fin R) (n' : Fin 128) (h1 : e1 (ix2 n x) = expV q ck (ix2 n' x)) :
    restV hb e1 (gateV gc) (sumV (R := 128) reduces_S128x2048_S2048 (expV q ck)) (ix2 n x)
      = expV q ck (ix2 n' x) * Ideal.div (gc (ix4 (0 : Fin 1) (0 : Fin 1) (0 : Fin 1) x)) (∑ n : Fin 128, expV q ck (ix2 n x)) := by
  rw [restV_apply, gateV_apply, sumV_apply, h1]

/-- The column a result entry of the tile starting at row `o` is computed over. -/
abbrev tileColumn (R : ℕ) (hR : R ≤ 128) (o : ℕ) : EReal :=
  columnOut R hR ((o + x.val) / 64) (fun n => expV q ck (ix2 n x)) (gc (ix4 (0 : Fin 1) (0 : Fin 1) (0 : Fin 1) x))
    (gs (ix4 (0 : Fin 1) (0 : Fin 1) (0 : Fin 1) x)) (fun n => cv (ix3 (0 : Fin 1) n d))

/-- Two groups of rows, one under the other. -/
theorem rows_joined (R R' : ℕ) (hR : R + R' = 128) (A : FVec Ideal (SR R) .f32) (B : FVec Ideal (SR R') .f32)
    (h : Shape.Concatenates [SR R, SR R'] S128x2048 0) (n : Fin 128) (x : Fin 2048) :
    concatenate S128x2048 0 [⟨SR R, A⟩, ⟨SR R', B⟩] h (ix2 n x)
      = if h : n.val < R then A (ix2 ⟨n.val, h⟩ x) else B (ix2 (⟨n.val - R, by omega⟩ : Fin R') x) := by
  pointwise

/-- An entry of the first tile. -/
theorem tile0_apply : tile0 q ck cv gc gs (ix3 (0 : Fin 1) x d) = tileColumn q ck cv gc gs x d 32 (by norm_num) 0 := by
  rw [tile0_eq, productV_apply]
  refine Finset.sum_congr rfl fun n _ => congrArg (· * cv (ix3 (0 : Fin 1) n d)) ?_
  rw [rows_joined 32 96 rfl]
  by_cases h : n.val < 32
  · rw [dif_pos h, dif_pos h]
    exact weight_kept _ _ q ck gc gs x (by norm_num) _ (masked0 q ck) _ (masked0_apply q ck · x) ⟨n.val, h⟩ (by pointwise; rfl)
  · rw [dif_neg h, dif_neg h]
    exact weight_rest _ q ck gc x _ _ n (by pointwise; exact congrArg (fun n' => expV q ck (ix2 n' x)) (Fin.ext (by dsimp only; omega)))

/-- An entry of the second tile. -/
theorem tile1_apply : tile1 q ck cv gc gs (ix3 (0 : Fin 1) x d) = tileColumn q ck cv gc gs x d 64 (by norm_num) 2048 := by
  rw [tile1_eq, productV_apply]
  refine Finset.sum_congr rfl fun n _ => congrArg (· * cv (ix3 (0 : Fin 1) n d)) ?_
  rw [rows_joined 64 64 rfl]
  by_cases h : n.val < 64
  · rw [dif_pos h, dif_pos h]
    exact weight_kept _ _ q ck gc gs x (by norm_num) _ (masked1 q ck) _ (masked1_apply q ck · x) ⟨n.val, h⟩ (by pointwise; rfl)
  · rw [dif_neg h, dif_neg h]
    exact weight_rest _ q ck gc x _ _ n (by pointwise; exact congrArg (fun n' => expV q ck (ix2 n' x)) (Fin.ext (by dsimp only; omega)))

/-- An entry of the third tile. -/
theorem tile2_apply : tile2 q ck cv gc gs (ix3 (0 : Fin 1) x d) = tileColumn q ck cv gc gs x d 96 (by norm_num) 4096 := by
  rw [tile2_eq, productV_apply]
  refine Finset.sum_congr rfl fun n _ => congrArg (· * cv (ix3 (0 : Fin 1) n d)) ?_
  rw [rows_joined 96 32 rfl]
  by_cases h : n.val < 96
  · rw [dif_pos h, dif_pos h]
    exact weight_kept _ _ q ck gc gs x (by norm_num) _ (masked2 q ck) _ (masked2_apply q ck · x) ⟨n.val, h⟩ (by pointwise; rfl)
  · rw [dif_neg h, dif_neg h]
    exact weight_rest _ q ck gc x _ _ n (by pointwise; exact congrArg (fun n' => expV q ck (ix2 n' x)) (Fin.ext (by dsimp only; omega)))

/-- An entry of the last tile. -/
theorem tile3_apply : tile3 q ck cv gc gs (ix3 (0 : Fin 1) x d) = tileColumn q ck cv gc gs x d 128 le_rfl 6144 := by
  rw [tile3_eq, productV_apply]
  refine Finset.sum_congr rfl fun n _ => congrArg (· * cv (ix3 (0 : Fin 1) n d)) ?_
  rw [dif_pos n.isLt]
  exact weight_kept _ _ q ck gc gs x le_rfl _ (masked3 q ck) _ (masked3_apply q ck · x) n rfl

end Cert.KernelIdeal.Own

end
-- ==== Proof.Carried.lean ====
/-
  The rows the kernel carries, and its result array, read at an index over the extended reals.

  `keysOf_apply` and `valsOf_apply`: a carried row is the mean of its 64 rows of the argument, the keys' scaled.
  `resultOf_apply`: a result entry is `columnOut` of its query's exponentials over the carried keys.
-/
module

public import proofs.«01_k».proof.Proof.Value
public import proofs.«01_k».proof.Proof.TileRead

@[expose] public section

set_option maxRecDepth 16384

noncomputable section

namespace Cert.KernelIdeal.Own

open Idealize.ShloMosaic Idealize.ShloMosaic.TcCoe Cert.KernelIdeal Cert.KernelIdeal.Gen

/-- The kernel's scale is `1/√768`. -/
theorem scale_eq : Named.named (F := Ideal) Cert.KernelIdeal.κ "inv_sqrt_d" (φ := .f32) 0x3D13CD3A#32 = (((Real.sqrt 768)⁻¹ : ℝ) : EReal) :=
  IdealRules.named_const.ideal_named_scalar _ _ _ _ rfl

/-- The mean of the 64 rows of block `n` of batch entry `b`. -/
def meanOf (x : Vec Ideal S2x8192x768 .f32) (b : Fin 2) (n : Fin 128) (d : Fin 768) : EReal :=
  Ideal.div (∑ k : Fin 64, x (ix3 b (⟨n.val * 64 + k.val, by omega⟩ : Fin 8192) d)) ((64 : ℝ) : EReal)

/-- What a step stores for a keys block: each group of 64 rows, averaged and scaled. -/
theorem pay1_apply (v : Vec Ideal S1x1024x768 .f32) (r : Fin 16) (d : Fin 768) :
    k0_pay1 v (ix3 (0 : Fin 1) r d)
      = (((Real.sqrt 768)⁻¹ : ℝ) : EReal) * Ideal.div (∑ k : Fin 64, v (ix3 (0 : Fin 1) (⟨r.val * 64 + k.val, by omega⟩ : Fin 1024) d)) ((64 : ℝ) : EReal) := by
  pointwise [k0_pay1]
  rw [scale_eq, sixtyFour]

/-- What a step stores for a values block: each group of 64 rows, averaged. -/
theorem pay2_apply (v : Vec Ideal S1x1024x768 .f32) (r : Fin 16) (d : Fin 768) :
    k0_pay2 v (ix3 (0 : Fin 1) r d)
      = Ideal.div (∑ k : Fin 64, v (ix3 (0 : Fin 1) (⟨r.val * 64 + k.val, by omega⟩ : Fin 1024) d)) ((64 : ℝ) : EReal) := by
  pointwise [k0_pay2]
  rw [sixtyFour]

/-- A row index within a step, by its three coordinates. -/
theorem rowIx_eq (r : ℕ) (d : Fin 768) (h : r < 16) : rowIx r d h = ix3 (0 : Fin 1) (⟨r, h⟩ : Fin 16) d :=
  funext fun a => match a with | ⟨0, _⟩ => rfl | ⟨1, _⟩ => rfl | ⟨2, _⟩ => rfl

variable (m : (ℓ : Loc nD τ sig) → Buf (Elt Ideal) ℓ) (c : Dev nD)

/-- A carried key row: the scaled mean of its block. -/
theorem keysOf_apply (b : Fin 2) (n : Fin 128) (d : Fin 768) :
    keysOf m c b.val b.isLt (ix3 (0 : Fin 1) n d) = (((Real.sqrt 768)⁻¹ : ℝ) : EReal) * meanOf (m (c.tc.loc main_arg1)) b n d := by
  show k0_pay1 (iblk m c 0 (point b.val (n.val / 16) b.isLt (by omega))) (rowIx (n.val % 16) d (by omega)) = _
  rw [rowIx_eq, pay1_apply]
  unfold meanOf
  congr 2
  refine Finset.sum_congr rfl fun k _ => ?_
  have e : (point b.val (n.val / 16) b.isLt (by omega)).val = 12 * b.val + n.val / 16 := rfl
  refine keys_block m c _ ?_ _ _ ?_ ?_ rfl
  · rw [e]; omega
  · show b.val = _; rw [e]; omega
  · show n.val * 64 + k.val = 1024 * _ + (n.val % 16 * 64 + k.val); rw [e]; omega

/-- A carried value row: the mean of its block. -/
theorem valsOf_apply (b : Fin 2) (n : Fin 128) (d : Fin 768) :
    valsOf m c b.val b.isLt (ix3 (0 : Fin 1) n d) = meanOf (m (c.tc.loc main_arg2)) b n d := by
  show k0_pay2 (iblk m c 1 (point b.val (n.val / 16) b.isLt (by omega))) (rowIx (n.val % 16) d (by omega)) = _
  rw [rowIx_eq, pay2_apply]
  unfold meanOf
  congr 1
  refine Finset.sum_congr rfl fun k _ => ?_
  have e : (point b.val (n.val / 16) b.isLt (by omega)).val = 12 * b.val + n.val / 16 := rfl
  refine values_block m c _ ?_ _ _ ?_ ?_ rfl
  · rw [e]; omega
  · show b.val = _; rw [e]; omega
  · show n.val * 64 + k.val = 1024 * _ + (n.val % 16 * 64 + k.val); rw [e]; omega

/-- A query's exponentials over the 128 blocks, as the kernel computes them. -/
def expOf (b : Fin 2) (t : Fin 8192) (n : Fin 128) : EReal :=
  Ideal.exp (∑ d : Fin 768, (((Real.sqrt 768)⁻¹ : ℝ) : EReal) * meanOf (m (c.tc.loc main_arg1)) b n d
    * (m (c.tc.loc main_arg0) : Vec Ideal S2x8192x768 .f32) (ix3 b t d))

/-- Row `t` of batch entry `b` in the tile that writes it, whichever number of rows that tile keeps. -/
theorem tile_at (b : Fin 2) (t : Fin 8192) (d : Fin 768) (R : ℕ) (hR : R ≤ 128) (k : ℕ) (hk : k = t.val / 2048)
    (htile : ∀ q ck cv gc gs x d, tile (F := Ideal) k q ck cv gc gs (ix3 (0 : Fin 1) x d) = tileColumn q ck cv gc gs x d R hR (2048 * k)) :
    resultOf m c (ix3 b t d) = columnOut R hR (t.val / 64) (expOf m c b t)
      ((m (c.tc.loc main_arg3) : Vec Ideal S2x8192 .f32) (ix2 b t)) ((m (c.tc.loc main_arg4) : Vec Ideal S2x8192 .f32) (ix2 b t))
      (meanOf (m (c.tc.loc main_arg2)) b · d) := by
  obtain ⟨x, hx⟩ : ∃ x : Fin 2048, x.val = t.val % 2048 := ⟨⟨t.val % 2048, Nat.mod_lt _ (by norm_num)⟩, rfl⟩
  have ht : t.val = 2048 * k + x.val := by omega
  have hk4 : k < 4 := by omega
  have hcol : (2048 * k + x.val) / 64 = t.val / 64 := by rw [ht]
  obtain ⟨p, e⟩ : ∃ p : Fin cfg0.N, p.val = 12 * b.val + (8 + k) := ⟨point b.val (8 + k) b.isLt (by omega), rfl⟩
  have e12 : p.val / 12 = b.val := by omega
  have em : p.val % 12 - 8 = k := by omega
  rw [resultOf_at m c p (by omega) (ix3 (0 : Fin 1) x d) (ix3 b t d) (show b.val = _ by omega) (show t.val = 2048 * _ + x.val by rw [em, ht]) rfl]
  unfold leftTile
  rw [em, htile]
  unfold tileColumn
  rw [hcol]
  have hb : ∀ (b' : ℕ) (hb' : b' < 2), b' = b.val → keysOf m c b' hb' = keysOf m c b.val b.isLt ∧ valsOf m c b' hb' = valsOf m c b.val b.isLt := by
    rintro _ _ rfl; exact ⟨rfl, rfl⟩
  rw [(hb _ _ e12).1, (hb _ _ e12).2]
  have hexp : (fun n => expV (iblk m c 2 p) (keysOf m c b.val b.isLt) (ix2 n x)) = expOf m c b t := by
    funext n
    rw [expV_apply]
    unfold expOf
    congr 1
    refine Finset.sum_congr rfl fun d' _ => ?_
    rw [keysOf_apply]
    congr 1
    exact queries_block m c p _ _ (show b.val = _ by omega) (show t.val = 2048 * _ + x.val by rw [em, ht]) rfl
  rw [hexp]
  have hv : (fun n => valsOf m c b.val b.isLt (ix3 (0 : Fin 1) n d)) = (meanOf (m (c.tc.loc main_arg2)) b · d) := funext fun n => valsOf_apply m c b n d
  rw [hv]
  congr 1
  · exact cmp_block m c p _ _ (show b.val = _ by omega) (show t.val = 2048 * _ + x.val by rw [em, ht])
  · exact slc_block m c p _ _ (show b.val = _ by omega) (show t.val = 2048 * _ + x.val by rw [em, ht])

/-- The result array, read at an index: a column over the exponentials of the query's scores, of which some number of
    rows beyond the query's own block is kept. -/
theorem resultOf_apply (b : Fin 2) (t : Fin 8192) (d : Fin 768) : ∃ (R : ℕ) (hR : R ≤ 128), t.val / 64 < R ∧
    resultOf m c (ix3 b t d) = columnOut R hR (t.val / 64) (expOf m c b t)
      ((m (c.tc.loc main_arg3) : Vec Ideal S2x8192 .f32) (ix2 b t)) ((m (c.tc.loc main_arg4) : Vec Ideal S2x8192 .f32) (ix2 b t))
      (meanOf (m (c.tc.loc main_arg2)) b · d) := by
  have hcases : t.val / 2048 = 0 ∨ t.val / 2048 = 1 ∨ t.val / 2048 = 2 ∨ t.val / 2048 = 3 := by omega
  rcases hcases with h | h | h | h
  · exact ⟨32, by norm_num, by omega, tile_at m c b t d _ _ 0 h.symm fun q ck cv gc gs x d => tile0_apply q ck cv gc gs x d⟩
  · exact ⟨64, by norm_num, by omega, tile_at m c b t d _ _ 1 h.symm fun q ck cv gc gs x d => tile1_apply q ck cv gc gs x d⟩
  · exact ⟨96, by norm_num, by omega, tile_at m c b t d _ _ 2 h.symm fun q ck cv gc gs x d => tile2_apply q ck cv gc gs x d⟩
  · exact ⟨128, le_rfl, by omega, tile_at m c b t d _ _ 3 h.symm fun q ck cv gc gs x d => tile3_apply q ck cv gc gs x d⟩

end Cert.KernelIdeal.Own

end
-- ==== Proof.RowMath.lean ====
/-
  One query's row over the reals.

  `shown u a` are the exponentials of the scores of the blocks up to `a`, the others zero. `softmax_hid`: the softmax of the
  scores with the later blocks hidden is these exponentials over their sum, whatever maximum was subtracted.
  `kept_eq`: the entries that reach the threshold are those at the first sixteen positions of any descending arrangement,
  if either at most sixteen blocks are shown or the seventeen largest scores differ.
-/
module

public import proofs.«01_k».proof.Proof.TileRead
public import Mathlib.Analysis.SpecialFunctions.Exp

@[expose] public section

noncomputable section

namespace Cert.KernelIdeal.Own

open Idealize.ShloMosaic

/-- A finite sum of reals, read in the extended reals. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert i s hi ih => rw [Finset.sum_insert hi, Finset.sum_insert hi, ih, EReal.coe_add]

variable (u : Fin 128 → ℝ) (a : ℕ)

/-- The exponentials of the scores of the blocks up to `a`. -/
def shown (n : Fin 128) : ℝ := if n.val ≤ a then Real.exp (u n) else 0

/-- The scores with the later blocks hidden. -/
def hid (n : Fin 128) : EReal := if n.val ≤ a then ((u n : ℝ) : EReal) else ⊥

/-- The exponentials shown are not negative. -/
theorem shown_nonneg (n : Fin 128) : 0 ≤ shown u a n := by
  unfold shown; split
  · exact (Real.exp_pos _).le
  · exact le_refl _

/-- Their sum is positive: block 0 always shows. -/
theorem shown_sum_pos : 0 < ∑ n, shown u a n :=
  Finset.sum_pos' (fun n _ => shown_nonneg u a n) ⟨0, Finset.mem_univ _, by
    unfold shown; rw [if_pos (show (0 : Fin 128).val ≤ a from Nat.zero_le _)]; exact Real.exp_pos _⟩

/-- The exponentials stand in the same order as the scores. -/
theorem shown_lt (n n' : Fin 128) (h : hid u a n < hid u a n') : shown u a n < shown u a n' := by
  unfold hid at h
  unfold shown
  by_cases h' : n'.val ≤ a
  · rw [if_pos h'] at h ⊢
    by_cases hn : n.val ≤ a
    · rw [if_pos hn] at h ⊢
      exact Real.exp_lt_exp.mpr (EReal.coe_lt_coe_iff.mp h)
    · rw [if_neg hn]; exact Real.exp_pos _
  · rw [if_neg h'] at h
    exact absurd h not_lt_bot

/-- The largest score shown is a real. -/
theorem colMax_hid : ∃ M : ℝ, colMax (hid u a) = (M : EReal) := by
  have h0 : ((u 0 : ℝ) : EReal) ≤ colMax (hid u a) := by
    have h := le_colMax (hid u a) 0
    have e : hid u a 0 = ((u 0 : ℝ) : EReal) := if_pos (show (0 : Fin 128).val ≤ a from Nat.zero_le _)
    rwa [e] at h
  obtain ⟨n, -, hn⟩ := Finset.exists_max_image (Finset.univ : Finset (Fin 128)) u ⟨0, Finset.mem_univ _⟩
  have h1 : colMax (hid u a) ≤ ((u n : ℝ) : EReal) := colMax_le _ _ fun k => by
    unfold hid; split
    · exact EReal.coe_le_coe_iff.mpr (hn k (Finset.mem_univ _))
    · exact bot_le
  exact ⟨(colMax (hid u a)).toReal, (EReal.coe_toReal (ne_top_of_le_ne_top (EReal.coe_ne_top _) h1) (ne_bot_of_le_ne_bot (EReal.coe_ne_bot _) h0)).symm⟩

/-- The softmax of the scores shown, whatever maximum was subtracted. -/
theorem softmax_hid (n : Fin 128) :
    Ideal.div (Ideal.exp (hid u a n - colMax (hid u a))) (∑ k, Ideal.exp (hid u a k - colMax (hid u a)))
      = ((shown u a n / ∑ k, shown u a k : ℝ) : EReal) := by
  obtain ⟨M, hM⟩ := colMax_hid u a
  have he : ∀ k, Ideal.exp (hid u a k - colMax (hid u a)) = ((shown u a k * Real.exp (-M) : ℝ) : EReal) := by
    intro k
    rw [hM]
    unfold hid shown
    split
    · rw [← EReal.coe_sub, sub_eq_add_neg, Ideal.exp_coe, Real.exp_add]
    · rw [EReal.bot_sub, Ideal.exp_bot, zero_mul, EReal.coe_zero]
  simp only [he]
  have hs := shown_sum_pos u a
  have hsum : ∑ k, shown u a k * Real.exp (-M) ≠ 0 := by
    rw [← Finset.sum_mul]; exact (mul_pos hs (Real.exp_pos _)).ne'
  rw [coe_sum, Ideal.div_coe hsum, ← EReal.coe_mul, ← Finset.sum_mul]
  congr 1
  have hx := (Real.exp_pos (-M)).ne'
  have hs' := hs.ne'
  field_simp

/-! ## The entries kept -/

variable {R : ℕ} (hR : R ≤ 128)

/-- The first `R` rows of the exponentials shown, as the kernel's rounds see them. -/
def seen (n : Fin R) : EReal := ((shown u a (n.castLE hR) : ℝ) : EReal)

/-- The spent mark is below every exponential shown. -/
theorem minus_one_lt (n : Fin R) : (((-1 : ℝ) : ℝ) : EReal) < seen u a hR n :=
  EReal.coe_lt_coe_iff.mpr (by have := shown_nonneg u a (n.castLE hR); linarith)

variable (S : Fin 128 → Fin 128) (hinj : Function.Injective S) (hsurj : Function.Surjective S)
  (hdesc : ∀ i j, i < j → shown u a (S j) ≤ shown u a (S i))

/-- The first sixteen positions of an arrangement. -/
def first16 (S : Fin 128 → Fin 128) : Finset (Fin 128) := Finset.univ.image fun k : Fin 16 => S (k.castLE (by norm_num))

/-- Membership in the first sixteen positions. -/
theorem mem_first16 (n : Fin 128) : n ∈ first16 S ↔ ∃ k : Fin 16, S (k.castLE (by norm_num)) = n := by
  unfold first16; simp

include hinj in
/-- There are sixteen of them. -/
theorem card_first16 : (first16 S).card = 16 := by
  unfold first16
  rw [Finset.card_image_of_injective _ (fun i j h => Fin.castLE_injective _ (hinj h))]
  simp

include hsurj hdesc in
/-- A position outside the first sixteen holds no more than any of them. -/
theorem le_first16 (n n' : Fin 128) (hn : n ∉ first16 S) (hn' : n' ∈ first16 S) : shown u a n ≤ shown u a n' := by
  obtain ⟨k, rfl⟩ := (mem_first16 S n').mp hn'
  obtain ⟨j, rfl⟩ := hsurj n
  refine hdesc _ _ (Fin.lt_def.mpr ?_)
  by_contra h
  have hk := k.isLt
  have hj : j.val < 16 := by
    have : j.val ≤ k.val := Nat.le_of_not_lt h
    omega
  exact hn ((mem_first16 S _).mpr ⟨⟨j.val, hj⟩, rfl⟩)

include hinj hsurj hdesc in
/-- With at most sixteen blocks shown, each of them is kept and each is among the first sixteen. -/
theorem kept_of_few (ha : a < 16) (n : Fin R) :
    (if threshold (((-1 : ℝ) : ℝ) : EReal) (seen u a hR) ≤ seen u a hR n then seen u a hR n else 0)
      = ((if n.castLE hR ∈ first16 S then shown u a (n.castLE hR) else 0 : ℝ) : EReal) := by
  by_cases hv : n.val ≤ a
  · have hpos : 0 < shown u a (n.castLE hR) := by
      unfold shown; rw [if_pos (show (n.castLE hR).val ≤ a from hv)]; exact Real.exp_pos _
    have hvis : ∀ k : Fin 128, 0 < shown u a k → k.val ≤ a := by
      intro k hk; by_contra h
      unfold shown at hk; rw [if_neg h] at hk; exact lt_irrefl _ hk
    have hmem : n.castLE hR ∈ first16 S := by
      by_contra hout
      have hsub : insert (n.castLE hR) (first16 S) ⊆ Finset.univ.filter fun k : Fin 128 => k.val ≤ a := by
        intro k hk
        rw [Finset.mem_filter]
        refine ⟨Finset.mem_univ _, hvis k ?_⟩
        rcases Finset.mem_insert.mp hk with rfl | hk
        · exact hpos
        · exact hpos.trans_le (le_first16 u a S hsurj hdesc _ _ hout hk)
      have hcard := Finset.card_le_card hsub
      rw [Finset.card_insert_of_notMem hout, card_first16 S hinj] at hcard
      have hle : (Finset.univ.filter fun k : Fin 128 => k.val ≤ a).card ≤ (Finset.range (a + 1)).card :=
        Finset.card_le_card_of_injOn (fun k => k.val) (fun k hk => by
          have := (Finset.mem_filter.mp hk).2
          exact Finset.mem_coe.mpr (Finset.mem_range.mpr (Nat.lt_succ_of_le this))) (fun i _ j _ h => Fin.ext h)
      rw [Finset.card_range] at hle
      omega
    have hkeep : threshold (((-1 : ℝ) : ℝ) : EReal) (seen u a hR) ≤ seen u a hR n := by
      refine keep_of_few 0 _ (by rw [← EReal.coe_zero]; exact EReal.coe_lt_coe_iff.mpr (by norm_num)) _
        (fun k => EReal.coe_nonneg.mpr (shown_nonneg u a _)) ?_ n (EReal.coe_pos.mpr hpos)
      have hle : (Finset.univ.filter fun k : Fin R => 0 < seen u a hR k).card ≤ (Finset.range (a + 1)).card :=
        Finset.card_le_card_of_injOn (fun k => k.val) (fun k hk => by
          have := hvis (k.castLE hR) (EReal.coe_pos.mp (Finset.mem_filter.mp hk).2)
          exact Finset.mem_coe.mpr (Finset.mem_range.mpr (Nat.lt_succ_of_le this))) (fun i _ j _ h => Fin.ext h)
      rw [Finset.card_range] at hle
      exact hle.trans (by omega)
    rw [if_pos hkeep, if_pos hmem]; rfl
  · have hz : shown u a (n.castLE hR) = 0 := by unfold shown; exact if_neg hv
    have hz' : seen u a hR n = 0 := by unfold seen; rw [hz, EReal.coe_zero]
    rw [hz, hz', ite_self, ite_self, EReal.coe_zero]

include hinj hsurj hdesc in
/-- With the seventeen largest scores shown different, the entries kept are those at the first sixteen positions. -/
theorem kept_of_untied (haR : a < R) (T : Fin 128 → Fin 128) (hTsurj : Function.Surjective T)
    (hTdesc : ∀ i j, i < j → hid u a (T j) ≤ hid u a (T i))
    (hT : ∀ k : Fin 16, hid u a (T ⟨k.val + 1, by omega⟩) < hid u a (T ⟨k.val, by omega⟩)) (n : Fin R) :
    (if threshold (((-1 : ℝ) : ℝ) : EReal) (seen u a hR) ≤ seen u a hR n then seen u a hR n else 0)
      = ((if n.castLE hR ∈ first16 S then shown u a (n.castLE hR) else 0 : ℝ) : EReal) := by
  -- strictly descending up to the seventeenth
  have hstrict : ∀ (i : Fin 16) (j : Fin 128), i.val < j.val → hid u a (T j) < hid u a (T (i.castLE (by norm_num))) := by
    intro i j hij
    refine lt_of_le_of_lt ?_ (hT i)
    rcases eq_or_lt_of_le (show i.val + 1 ≤ j.val from hij) with h | h
    · exact le_of_eq (congrArg (fun k => hid u a (T k)) (Fin.ext h.symm))
    · exact hTdesc _ _ (Fin.lt_def.mpr h)
  have hTinj : Function.Injective T := Finite.injective_iff_surjective.mpr hTsurj
  have hlow : ∀ k : Fin 128, k ∉ first16 T → ∀ i : Fin 16, shown u a k < shown u a (T (i.castLE (by norm_num))) := by
    intro k hk i
    obtain ⟨j, rfl⟩ := hTsurj k
    refine shown_lt u a _ _ (hstrict i j ?_)
    by_contra h
    have hi := i.isLt
    have hj : j.val < 16 := by omega
    exact hk ((mem_first16 T _).mpr ⟨⟨j.val, hj⟩, rfl⟩)
  -- both arrangements have the same first sixteen
  have hsame : first16 T = first16 S := by
    refine Finset.eq_of_subset_of_card_le (fun x hx => ?_) (by rw [card_first16 S hinj, card_first16 T hTinj])
    by_contra hout
    have hsub : first16 S ⊆ first16 T := by
      intro y hy
      by_contra hyT
      obtain ⟨i, rfl⟩ := (mem_first16 T x).mp hx
      exact absurd (hlow y hyT i) (not_lt.mpr (le_first16 u a S hsurj hdesc _ _ hout hy))
    have hST := Finset.eq_of_subset_of_card_le hsub (by rw [card_first16 S hinj, card_first16 T hTinj])
    rw [hST] at hout
    exact hout hx
  have hvis : ∀ i : Fin 16, (T (i.castLE (by norm_num))).val ≤ a := by
    intro i
    by_contra h
    have := hT i
    have hb : hid u a (T ⟨i.val, by omega⟩) = ⊥ := if_neg h
    rw [hb] at this
    exact not_lt_bot this
  have hk := keep_of_decreasing (((-1 : ℝ) : ℝ) : EReal) (seen u a hR) (minus_one_lt u a hR)
    (fun i => ⟨(T (i.castLE (by norm_num))).val, (hvis i).trans_lt haR⟩)
    (fun i j hij => EReal.coe_lt_coe_iff.mpr (shown_lt u a _ _ (hstrict i (j.castLE (by norm_num)) hij)))
    (fun k hk => EReal.coe_lt_coe_iff.mpr (hlow (k.castLE hR) (fun hmem => by
      obtain ⟨i, hi⟩ := (mem_first16 T _).mp hmem
      exact hk i (Fin.ext (by have h := congrArg Fin.val hi; exact h))) 15)) n
  rw [← hsame]
  by_cases hmem : n.castLE hR ∈ first16 T
  · obtain ⟨i, hi⟩ := (mem_first16 T _).mp hmem
    rw [if_pos (hk.mpr ⟨i, Fin.ext (by have h := congrArg Fin.val hi; exact h)⟩), if_pos hmem]; rfl
  · rw [if_neg (fun h => hmem ((mem_first16 T _).mpr (by
      obtain ⟨i, hi⟩ := hk.mp h
      exact ⟨i, Fin.ext (by have h := congrArg Fin.val hi; exact h)⟩))), if_neg hmem, EReal.coe_zero]

end Cert.KernelIdeal.Own

end
-- ==== Proof.RowSum.lean ====
/-
  One query's output: the kernel's single weighted sum over the blocks is the reference's two branches.
-/
module

public import proofs.«01_k».proof.Proof.RowMath

@[expose] public section

noncomputable section

namespace Cert.KernelIdeal.Own

open Idealize.ShloMosaic

variable (u : Fin 128 → ℝ) (a : ℕ) {R : ℕ} (hR : R ≤ 128)

/-- The kept rows hold every exponential shown. -/
theorem sum_seen (haR : a < R) : ∑ n : Fin R, seen u a hR n = ((∑ n, shown u a n : ℝ) : EReal) := by
  have h : ∑ n : Fin R, seen u a hR n = ((∑ n : Fin R, shown u a (n.castLE hR) : ℝ) : EReal) := coe_sum fun n : Fin R => shown u a (n.castLE hR)
  rw [h]
  congr 1
  have hm : ∑ n : Fin R, shown u a (n.castLE hR) = ∑ n ∈ (Finset.univ : Finset (Fin R)).map (Fin.castLEEmb hR), shown u a n := (Finset.sum_map Finset.univ (Fin.castLEEmb hR) (shown u a)).symm
  rw [hm]
  refine Finset.sum_subset (Finset.subset_univ _) fun n _ hn => ?_
  refine if_neg fun hle => hn (Finset.mem_map.mpr ⟨⟨n.val, by omega⟩, Finset.mem_univ _, Fin.ext rfl⟩)

/-- A sum over the first sixteen positions. -/
theorem sum_first16 (S : Fin 128 → Fin 128) (hinj : Function.Injective S) (f : Fin 128 → ℝ) :
    (∑ n, if n ∈ first16 S then f n else 0) = ∑ k : Fin 16, f (S (k.castLE (by norm_num))) := by
  rw [Finset.sum_ite_mem, Finset.univ_inter]
  unfold first16
  exact Finset.sum_image fun i _ j _ h => Fin.castLE_injective _ (hinj h)

/-- With the kept entries those at the first sixteen positions, the column is the coarse branch plus the selective one. -/
theorem column_eq (haR : a < R) (S : Fin 128 → Fin 128) (hinj : Function.Injective S) (g h : ℝ) (v : Fin 128 → ℝ)
    (hkept : ∀ n : Fin R, (if threshold (((-1 : ℝ) : ℝ) : EReal) (seen u a hR) ≤ seen u a hR n then seen u a hR n else 0)
      = ((if n.castLE hR ∈ first16 S then shown u a (n.castLE hR) else 0 : ℝ) : EReal)) :
    columnOut R hR a (fun n => Ideal.exp ((u n : ℝ) : EReal)) (g : EReal) (h : EReal) (fun n => ((v n : ℝ) : EReal))
      = (∑ n, ((Real.exp (u n) / ∑ k, Real.exp (u k) : ℝ) : EReal) * ((v n : ℝ) : EReal)) * (g : EReal)
        + (∑ k : Fin 16, ((shown u a (S (k.castLE (by norm_num))) / ∑ k, shown u a k : ℝ) : EReal)
            * ((v (S (k.castLE (by norm_num))) : ℝ) : EReal)) * (h : EReal) := by
  have hA : ∑ k, Real.exp (u k) ≠ 0 := (Finset.sum_pos (fun k _ => Real.exp_pos _) ⟨0, Finset.mem_univ _⟩).ne'
  have hW : ∑ k, shown u a k ≠ 0 := (shown_sum_pos u a).ne'
  have hE : ∀ n, Ideal.exp ((u n : ℝ) : EReal) = ((Real.exp (u n) : ℝ) : EReal) := fun n => rfl
  have he : (fun n : Fin R => if n.val ≤ a then ((Real.exp (u (n.castLE hR)) : ℝ) : EReal) else 0) = seen u a hR := by
    funext n
    unfold seen shown
    by_cases hn : n.val ≤ a
    · rw [if_pos hn, if_pos (show (n.castLE hR).val ≤ a from hn)]
    · rw [if_neg hn, if_neg (show ¬ (n.castLE hR).val ≤ a from hn), EReal.coe_zero]
  have hlhs : columnOut R hR a (fun n => Ideal.exp ((u n : ℝ) : EReal)) (g : EReal) (h : EReal) (fun n => ((v n : ℝ) : EReal))
      = ∑ n : Fin 128, (((Real.exp (u n) * (g * (1 / ∑ k, Real.exp (u k)))
          + (if n ∈ first16 S then shown u a n else 0) * (h * (1 / ∑ k, shown u a k))) * v n : ℝ) : EReal) := by
    unfold columnOut
    simp only [hE]
    rw [he, sum_seen u a hR haR, coe_sum, Ideal.div_coe hA, Ideal.div_coe hW]
    refine Finset.sum_congr rfl fun n _ => ?_
    by_cases hn : n.val < R
    · have hn' : (if n.val ≤ a then ((Real.exp (u ((⟨n.val, hn⟩ : Fin R).castLE hR)) : ℝ) : EReal) else 0) = seen u a hR ⟨n.val, hn⟩ := congrFun he ⟨n.val, hn⟩
      rw [dif_pos hn, hn', hkept ⟨n.val, hn⟩, EReal.coe_mul, EReal.coe_add, EReal.coe_mul, EReal.coe_mul, EReal.coe_mul, EReal.coe_mul]
      rfl
    · have hz : shown u a n = 0 := if_neg (by omega)
      rw [dif_neg hn, hz, ite_self, zero_mul, add_zero, EReal.coe_mul, EReal.coe_mul, EReal.coe_mul]
  rw [hlhs, coe_sum]
  simp only [← EReal.coe_mul]
  rw [coe_sum, coe_sum, ← EReal.coe_mul, ← EReal.coe_mul, ← EReal.coe_add]
  congr 1
  rw [← sum_first16 S hinj fun n => shown u a n / (∑ k, shown u a k) * v n, Finset.sum_mul, Finset.sum_mul, ← Finset.sum_add_distrib]
  refine Finset.sum_congr rfl fun n _ => ?_
  split <;> ring

end Cert.KernelIdeal.Own

end
-- ==== Proof.RefValue.lean ====
/-
  The reference's result, split into the steps it is made of, and each step read at an index.

  `refOut` puts the steps together in the program's order; `result_eq` says that this is the term the reference's run leaves.
-/
module

public import proofs.«01_k».proof.Proof.Gen.ReferenceIdeal.Run
public import proofs.«01_k».proof.Proof.Words
public import proofs.«01_k».proof.Proof.Threshold
public import Idealize.ShloMosaic.Lib.Pointwise.IndexVar

@[expose] public section

set_option maxRecDepth 16384

noncomputable section

namespace Cert.KernelIdeal.Own.Ref

open Idealize.ShloMosaic Idealize.ShloMosaic.TcCoe Cert.ReferenceIdeal Cert.ReferenceIdeal.Gen

variable {F : FTy → Type} [FloatOps F]

/-- The mean of every block of 64 rows. -/
def means (x : FVec F S2x8192x768 .f32) : FVec F S2x128x768 .f32 :=
  Host.divf (Host.reduceAdd (shapeCast _ x shapeCasts_S2x8192x768_S2x128x64x768) (constant S_ .f32 0x00000000#32) reducesTo_S2x128x64x768_S2x128x768_d2 h_S_)
    (broadcastInDim S2x128x768 ![] bcast_S_S2x128x768 (constant S_ .f32 0x42800000#32))

/-- Every query against every block's mean key, scaled. -/
def scores (q : FVec F S2x8192x768 .f32) (k : FVec F S2x128x768 .f32) : FVec F S2x8192x128 .f32 :=
  mulf (Host.dotGeneral dot_S2x8192x768_S2x128x768_S2x8192x128_2_2_1_1_0_0 none q k)
    (broadcastInDim S2x8192x128 ![] bcast_S_S2x8192x128 (Host.divf (constant S_ .f32 0x3F800000#32) (Host.sqrt (constant S_ .f32 0x44400000#32))))

/-- A row's copy along the 128 blocks. -/
def along128 (x : FVec F S2x8192 .f32) : FVec F S2x8192x128 .f32 :=
  broadcastInDim S2x8192x128 ![0, 1, 2] bcast_S2x8192x1_S2x8192x128_0_1_2 (broadcastInDim S2x8192x1 ![0, 1] bcast_S2x8192_S2x8192x1_0_1 x)

/-- The exponentials of a row of scores, less the row's maximum. -/
def shifted (s : FVec F S2x8192x128 .f32) : FVec F S2x8192x128 .f32 :=
  Host.exp (subf s (along128 (maximumf (broadcastInDim S2x8192 ![] bcast_S_S2x8192 (constant S_ .f32 0xFF800000#32))
    (Host.reduce FloatOps.maximumf s (constant S_ .f32 0xFF800000#32) reducesTo_S2x8192x128_S2x8192_d2 h_S_))))

/-- Every row divided by its sum. -/
def normed (e : FVec F S2x8192x128 .f32) : FVec F S2x8192x128 .f32 :=
  Host.divf e (along128 (Host.reduceAdd e (constant S_ .f32 0x00000000#32) reducesTo_S2x8192x128_S2x8192_d2 h_S_))

/-- A row's copy along the 768 features. -/
def along768 (x : FVec F S2x8192 .f32) : FVec F S2x8192x768 .f32 :=
  broadcastInDim S2x8192x768 ![0, 1, 2] bcast_S2x8192x1_S2x8192x768_0_1_2 (broadcastInDim S2x8192x1 ![0, 1] bcast_S2x8192_S2x8192x1_0_1 x)

/-- The coarse branch. -/
def coarse (p : FVec F S2x8192x128 .f32) (v : FVec F S2x128x768 .f32) (g : FVec F S2x8192 .f32) : FVec F S2x8192x768 .f32 :=
  mulf (Host.dotGeneral dot_S2x8192x128_S2x128x768_S2x8192x768_2_1_1_2_0_0 none p v) (along768 g)

/-- The block of every row. -/
def blocks : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

/-- The scores with the later blocks hidden. -/
def hidden (s : FVec F S2x8192x128 .f32) : FVec F S2x8192x128 .f32 :=
  select (broadcastInDim S2x8192x128 ![0, 1, 2] bcast_S1x8192x128_S2x8192x128_0_1_2
      (cmpi .slt
        (broadcastInDim S1x8192x128 ![0, 1, 2] bcast_S1x8192x1_S1x8192x128_0_1_2 (broadcastInDim S1x8192x1 ![1] bcast_S8192_S1x8192x1_1 blocks))
        (broadcastInDim S1x8192x128 ![0, 1, 2] bcast_S1x1x128_S1x8192x128_0_1_2 (broadcastInDim S1x1x128 ![2] bcast_S128_S1x1x128_2 (iotaInDim S128 32 0)))))
    (broadcastInDim S2x8192x128 ![] bcast_S_S2x8192x128 (id (constant S_ .f32 0xFF800000#32))) s

/-- The sixteen largest entries of every row, with their positions. -/
def largest (p : FVec F S2x8192x128 .f32) : FVec F S2x8192x16 .f32 × IVec S2x8192x16 32 :=
  Host.topK S2x8192x16 2 (FloatOps.cmpfTotal .gt) p sliceFits_S2x8192x128_S2x8192x16

/-- The rows of `v` at the positions found. -/
def fetched (idx : IVec S2x8192x16 32) (v : FVec F S2x128x768 .f32) : FVec F S2x8192x16x768 .f32 :=
  Host.gather gather_S2x128x768_S2x8192x16x1_S2x8192x16x768_3_1_0_0_1_3_11768 v
    (broadcastInDim S2x8192x16x1 ![0, 1, 2] bcast_S2x8192x16_S2x8192x16x1_0_1_2
      (select (cmpi .slt idx (broadcastInDim S2x8192x16 ![] bcast_S_S2x8192x16 (constantI S_ 32 0#32)))
        (addi idx (broadcastInDim S2x8192x16 ![] bcast_S_S2x8192x16 (constantI S_ 32 128#32))) idx))

/-- The selective branch. -/
def selective (w : FVec F S2x8192x16 .f32) (f : FVec F S2x8192x16x768 .f32) (g : FVec F S2x8192 .f32) : FVec F S2x8192x768 .f32 :=
  mulf (Host.reduceAdd
      (mulf (broadcastInDim S2x8192x16x768 ![0, 1, 2, 3] bcast_S2x8192x16x1_S2x8192x16x768_0_1_2_3
        (broadcastInDim S2x8192x16x1 ![0, 1, 2] bcast_S2x8192x16_S2x8192x16x1_0_1_2 w)) f)
      (constant S_ .f32 0x00000000#32) reducesTo_S2x8192x16x768_S2x8192x768_d2 h_S_)
    (along768 g)

/-- The whole result. -/
def refOut (q k v : FVec F S2x8192x768 .f32) (gc gs : FVec F S2x8192 .f32) : FVec F S2x8192x768 .f32 :=
  addf (addf (coarse (normed (shifted (scores q (means k)))) (means v) gc)
      (selective (largest (normed (shifted (hidden (scores q (means k)))))).1
        (fetched (largest (normed (shifted (hidden (scores q (means k)))))).2 (means v)) gs))
    (broadcastInDim S2x8192x768 ![] bcast_S_S2x8192x768 (constant S_ .f32 0x00000000#32))

/-- The term the reference's run leaves is these steps in order. -/
theorem result_eq (m : (ℓ : Loc nD τ sig) → Buf (Elt F) ℓ) (c : Dev nD) :
    Cert.ReferenceIdeal.Value.res_out0 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ## The steps at an index -/

/-- The reference's scale, one over the root of 768, is the named constant's value. -/
theorem ref_scale : Ideal.div 1 (Ideal.sqrt (Ideal.ofBits FTy.f32 0x44400000#32)) = (((Real.sqrt 768)⁻¹ : ℝ) : EReal) := by
  have h : Ideal.ofBits FTy.f32 0x44400000#32 = ((768 : ℝ) : EReal) := by
    simp [Ideal.ofBits, Ideal.ieee, -EReal.coe_mul]; norm_num
  have hs : Real.sqrt 768 ≠ 0 := (Real.sqrt_pos.mpr (by norm_num)).ne'
  rw [h, Ideal.sqrt_coe, if_neg (by norm_num), Ideal.div_coe hs, one_mul, one_div]

/-- The maximum the reference subtracts is the row's. -/
theorem shifted_fold (s : Fin 128 → EReal) : max (Ideal.ofBits FTy.f32 0xFF800000#32)
          (Finset.fold max (Ideal.ofBits FTy.f32 0xFF800000#32) s Finset.univ) = colMax s := by
  rw [negInf]
  exact max_eq_right bot_le

/-- The dimension numbers of the reference's one gather. -/
abbrev gatherDims : GatherDims S2x128x768 S2x8192x16x1 S2x8192x16x768 := gather_S2x128x768_S2x8192x16x1_S2x8192x16x768_3_1_0_0_1_3_11768

/-- The gather reads, for each position it is given below 128, the row at that position of its own batch entry. -/
theorem fetch_at {α : Type} (x : S2x128x768.Idx → α) (idx : IVec S2x8192x16x1 32) (b : Fin 2) (t : Fin 8192) (k : Fin 16) (d : Fin 768)
    (n : Fin 128) (hn : idx (ix4 b t k (0 : Fin 1)) = BitVec.ofNat 32 n.val) :
    Host.gather gatherDims x idx (ix4 b t k d) = x (ix3 b n d) := by
  have hbatch : ∀ a : Fin 3, a ∈ gatherDims.operandBatchingDims ↔ a = 0 := fun a => List.mem_singleton
  have hcoll : ∀ a : Fin 3, a ∈ gatherDims.collapsedSliceDims ↔ a = 1 := fun a => List.mem_singleton
  have hmap : ∀ a : Fin 3, a ∈ gatherDims.startIndexMap ↔ a = 1 := fun a => List.mem_singleton
  have hkept : ∀ a : Fin 3, a ∈ gatherDims.sKept ↔ a ≠ 1 ∧ a ≠ 0 := fun a => by rw [GatherDims.mem_sKept, hcoll, hbatch]
  have hstart : gatherDims.start (ix4 b t k d) idx (1 : Fin 3) = n.val := by
    unfold GatherDims.start
    rw [dif_pos ((hmap 1).mpr rfl)]
    have hsi : ∀ p, gatherDims.siIdx (ix4 b t k d) p = ix4 b t k (0 : Fin 1) := fun p => funext fun a =>
      match a with | ⟨0, _⟩ => rfl | ⟨1, _⟩ => rfl | ⟨2, _⟩ => rfl | ⟨3, _⟩ => Subsingleton.elim (α := Fin 1) _ _
    rw [hsi, hn]
    show min ((BitVec.ofNat 32 n.val).toInt.toNat) 127 = n.val
    have hnat : (BitVec.ofNat 32 n.val).toNat = n.val := by rw [BitVec.toNat_ofNat]; omega
    rw [BitVec.toInt_eq_toNat_of_lt (by rw [hnat]; omega), hnat]
    omega
  refine congrArg x (funext fun a => Fin.ext ?_)
  show gatherDims.start (ix4 b t k d) idx a + gatherDims.batchCoord (ix4 b t k d) a + gatherDims.offCoord (ix4 b t k d) a = (ix3 b n d a).val
  match a with
  | ⟨0, _⟩ =>
    show gatherDims.start _ idx (0 : Fin 3) + gatherDims.batchCoord _ (0 : Fin 3) + gatherDims.offCoord _ (0 : Fin 3) = b.val
    rw [GatherDims.start_batching _ _ _ _ ((hbatch 0).mpr rfl), GatherDims.offCoord_eq_zero _ _ _ (fun h => ((hkept 0).mp h).2 rfl)]
    unfold GatherDims.batchCoord
    rw [dif_pos ((hbatch 0).mpr rfl)]
    show 0 + b.val + 0 = b.val
    omega
  | ⟨1, _⟩ =>
    show gatherDims.start _ idx (1 : Fin 3) + gatherDims.batchCoord _ (1 : Fin 3) + gatherDims.offCoord _ (1 : Fin 3) = n.val
    rw [hstart, GatherDims.batchCoord_eq_zero _ _ _ (fun h => absurd ((hbatch 1).mp h) (by decide)),
      GatherDims.offCoord_eq_zero _ _ _ (fun h => ((hkept 1).mp h).1 rfl)]
    rfl
  | ⟨2, _⟩ =>
    show gatherDims.start _ idx (2 : Fin 3) + gatherDims.batchCoord _ (2 : Fin 3) + gatherDims.offCoord _ (2 : Fin 3) = d.val
    rw [GatherDims.batchCoord_eq_zero _ _ _ (fun h => absurd ((hbatch 2).mp h) (by decide))]
    unfold GatherDims.start GatherDims.offCoord
    rw [dif_neg (fun h => absurd ((hmap 2).mp h) (by decide)), dif_pos ((hkept 2).mpr ⟨by decide, by decide⟩)]
    show 0 + 0 + d.val = d.val
    omega

/-- A position below 128 passes the reference's wrap of negative positions unchanged. -/
theorem start_word (idx : IVec S2x8192x16 32) (b : Fin 2) (t : Fin 8192) (k : Fin 16)
    (n : Fin 128) (hn : idx (ix3 b t k) = BitVec.ofNat 32 n.val) :
    (broadcastInDim S2x8192x16x1 ![0, 1, 2] bcast_S2x8192x16_S2x8192x16x1_0_1_2
      (select (cmpi .slt idx (broadcastInDim S2x8192x16 ![] bcast_S_S2x8192x16 (constantI S_ 32 0#32)))
        (addi idx (broadcastInDim S2x8192x16 ![] bcast_S_S2x8192x16 (constantI S_ 32 128#32))) idx)) (ix4 b t k (0 : Fin 1)) = BitVec.ofNat 32 n.val := by
  pointwise
  rw [hn, WordCmp.cmpi_slt_ofNat (w := 32) (b := 0) (by omega) (by omega), decide_eq_false (by omega)]
  rfl

/-- A block mean: the sum of 64 rows over 64. -/
theorem means_apply (x : FVec Ideal S2x8192x768 .f32) (b : Fin 2) (n : Fin 128) (d : Fin 768) :
    means x (ix3 b n d) = Ideal.div (∑ k : Fin 64, x (ix3 b (⟨n.val * 64 + k.val, by omega⟩ : Fin 8192) d)) ((64 : ℝ) : EReal) := by
  pointwise [means]
  rw [sixtyFour]

/-- A score: the product of a query and a block mean, times the scale. -/
theorem scores_apply (q : FVec Ideal S2x8192x768 .f32) (k : FVec Ideal S2x128x768 .f32) (b : Fin 2) (t : Fin 8192) (n : Fin 128) :
    scores q k (ix3 b t n) = (∑ d : Fin 768, q (ix3 b t d) * k (ix3 b n d)) * (((Real.sqrt 768)⁻¹ : ℝ) : EReal) := by
  pointwise [scores]
  rw [ref_scale]

/-- A row of exponentials, less the row's maximum. -/
theorem shifted_apply (s : FVec Ideal S2x8192x128 .f32) (b : Fin 2) (t : Fin 8192) (n : Fin 128) :
    shifted s (ix3 b t n) = Ideal.exp (s (ix3 b t n) - colMax fun n' : Fin 128 => s (ix3 b t n')) := by
  pointwise [shifted, along128]
  rw [shifted_fold]

/-- A row over its sum. -/
theorem normed_apply (e : FVec Ideal S2x8192x128 .f32) (b : Fin 2) (t : Fin 8192) (n : Fin 128) :
    normed e (ix3 b t n) = Ideal.div (e (ix3 b t n)) (∑ n' : Fin 128, e (ix3 b t n')) := by
  pointwise [normed, along128]

/-- The compressed branch: the weighted sum of all block means of the values, times its gate. -/
theorem coarse_apply (p : FVec Ideal S2x8192x128 .f32) (v : FVec Ideal S2x128x768 .f32) (g : FVec Ideal S2x8192 .f32)
    (b : Fin 2) (t : Fin 8192) (d : Fin 768) :
    coarse p v g (ix3 b t d) = (∑ n : Fin 128, p (ix3 b t n) * v (ix3 b n d)) * g (ix2 b t) := by
  pointwise [coarse, along768]

/-- A score with the later blocks at minus infinity. -/
theorem hidden_apply (s : FVec Ideal S2x8192x128 .f32) (b : Fin 2) (t : Fin 8192) (n : Fin 128) :
    hidden s (ix3 b t n) = if n.val ≤ t.val / 64 then s (ix3 b t n) else ⊥ := by
  rw [← negInf, ← select_hidden n.val t.val n.isLt t.isLt]
  pointwise [hidden, blocks]
  rfl

/-- A row fetched at a position below 128. -/
theorem fetched_apply (idx : IVec S2x8192x16 32) (v : FVec Ideal S2x128x768 .f32) (b : Fin 2) (t : Fin 8192) (k : Fin 16) (d : Fin 768)
    (n : Fin 128) (hn : idx (ix3 b t k) = BitVec.ofNat 32 n.val) : fetched idx v (ix4 b t k d) = v (ix3 b n d) := by
  exact fetch_at v _ b t k d n (start_word idx b t k n hn)

/-- The selective branch: the weighted sum of the sixteen fetched block means, times its gate. -/
theorem selective_apply (w : FVec Ideal S2x8192x16 .f32) (f : FVec Ideal S2x8192x16x768 .f32) (g : FVec Ideal S2x8192 .f32)
    (b : Fin 2) (t : Fin 8192) (d : Fin 768) :
    selective w f g (ix3 b t d) = (∑ k : Fin 16, w (ix3 b t k) * f (ix4 b t k d)) * g (ix2 b t) := by
  pointwise [selective, along768]

/-- The result at an index: the two branches' sum. -/
theorem refOut_apply (q k v : FVec Ideal S2x8192x768 .f32) (gc gs : FVec Ideal S2x8192 .f32) (b : Fin 2) (t : Fin 8192) (d : Fin 768) :
    refOut q k v gc gs (ix3 b t d) = coarse (normed (shifted (scores q (means k)))) (means v) gc (ix3 b t d)
      + selective (largest (normed (shifted (hidden (scores q (means k)))))).1
        (fetched (largest (normed (shifted (hidden (scores q (means k)))))).2 (means v)) gs (ix3 b t d) := by
  have h : ∀ x y : FVec Ideal S2x8192x768 .f32, addf (addf x y) (broadcastInDim S2x8192x768 ![] bcast_S_S2x8192x768 (constant S_ .f32 0x00000000#32)) (ix3 b t d)
      = x (ix3 b t d) + y (ix3 b t d) := by
    intro x y
    pointwise
  exact h _ _

end Cert.KernelIdeal.Own.Ref

end
-- ==== Proof.TopK.lean ====
/-
  The largest entries along the last of three axes, as the host sorts them out.

  `topK_at`: on every row there is one arrangement of its 128 positions in descending order, and the entries returned are
  the row's entries at the first positions of that arrangement, with those positions.
-/
module

public import Idealize.ShloMosaic.Lib.Pointwise
public import Idealize.ShloMosaic.Lib.Pointwise.IndexVar
public import Idealize.ShloMosaic.Lib.SortFacts

@[expose] public section

noncomputable section

namespace Cert.KernelIdeal.Own

open Idealize.ShloMosaic Idealize.ShloMosaic.TcCoe

/-- Two batch entries of 8192 rows of `K`. -/
abbrev Rows (K : ℕ) : Shape := ⟨3, ![2, 8192, K]⟩

/-- The fiber of a row through its last axis. -/
theorem along_last (b : Fin 2) (t : Fin 8192) (j k : Fin 128) :
    Shape.Idx.along (s := Rows 128) (ix3 b t j) (2 : Fin 3) k = ix3 b t k :=
  funext fun a => match a with | ⟨0, _⟩ => rfl | ⟨1, _⟩ => rfl | ⟨2, _⟩ => rfl

/-- The order's "strictly before" on a row: a larger entry. -/
def before (v : Fin 128 → EReal) (k k' : Fin 128) : Bool := FloatOps.cmpfTotal (F := Ideal) (φ := .f32) .gt (v k) (v k') == 1#1

/-- Before means strictly larger. -/
theorem before_iff (v : Fin 128 → EReal) (k k' : Fin 128) : before v k k' = decide (v k' < v k) := by
  unfold before
  rw [Ideal.cmpfTotal_def]
  show (BitVec.ofBool (decide (v k' < v k)) == 1#1) = _
  by_cases h : v k' < v k <;> simp [h]

/-- The arrangement of a row's positions in descending order. -/
def descending (v : Fin 128 → EReal) : Fin 128 → Fin 128 := sortedFrom (before v)

/-- No position is arranged twice. -/
theorem descending_injective (v : Fin 128 → EReal) : Function.Injective (descending v) := sortedFrom_injective _

/-- Every position is arranged. -/
theorem descending_surjective (v : Fin 128 → EReal) : Function.Surjective (descending v) := sortedFrom_surjective _

/-- Later positions of the arrangement hold no larger entries. -/
theorem descending_le (v : Fin 128 → EReal) (i j : Fin 128) (h : i < j) : v (descending v j) ≤ v (descending v i) := by
  have h' := sortedFrom_noInversion (before v) (before v) (fun a b => by simp only [before_iff, decide_eq_true_eq, decide_eq_false_iff_not]; exact fun h => h.asymm)
    (fun _ _ => id) (fun a b c => by simp only [before_iff, decide_eq_false_iff_not, not_lt]; exact fun h1 h2 => h1.trans h2) i j h
  rw [before_iff, decide_eq_false_iff_not, not_lt] at h'
  exact h'

/-- The sorted row at a position: the entry, and its position in the row, at that place of the arrangement. -/
theorem sort_at {α : Type} (x : FVec Ideal (Rows 128) .f32) (y : (Rows 128).Idx → α) (b : Fin 2) (t : Fin 8192) (j : Fin 128) :
    (Host.sort2 (Rows 128) 2 (fun l r => FloatOps.cmpfTotal (F := Ideal) (φ := .f32) .gt l.1 r.1) x y).1 (ix3 b t j)
        = x (ix3 b t (descending (fun n => x (ix3 b t n)) j))
      ∧ (Host.sort2 (Rows 128) 2 (fun l r => FloatOps.cmpfTotal (F := Ideal) (φ := .f32) .gt l.1 r.1) x y).2 (ix3 b t j)
        = y (ix3 b t (descending (fun n => x (ix3 b t n)) j)) := by
  unfold Host.sort2
  rw [dif_pos (show 2 < (Rows 128).rank by decide)]
  have e : sortedFrom (fun k k' : Fin 128 => FloatOps.cmpfTotal (F := Ideal) (φ := .f32) .gt (x (Shape.Idx.along (s := Rows 128) (ix3 b t j) (2 : Fin 3) k))
      (x (Shape.Idx.along (s := Rows 128) (ix3 b t j) (2 : Fin 3) k')) == 1#1) j = descending (fun n => x (ix3 b t n)) j := by
    have : (fun k k' : Fin 128 => FloatOps.cmpfTotal (F := Ideal) (φ := .f32) .gt (x (Shape.Idx.along (s := Rows 128) (ix3 b t j) (2 : Fin 3) k))
      (x (Shape.Idx.along (s := Rows 128) (ix3 b t j) (2 : Fin 3) k')) == 1#1) = before fun n => x (ix3 b t n) := by
      funext k k'
      rw [along_last, along_last]
      rfl
    rw [this]
    rfl
  constructor
  · refine (congrArg x (along_last b t j _)).trans ?_
    exact congrArg (fun n => x (ix3 b t n)) e
  · refine (congrArg y (along_last b t j _)).trans ?_
    exact congrArg (fun n => y (ix3 b t n)) e

/-- The entries returned, and their positions. -/
theorem topK_at {K : ℕ} (hK : K ≤ 128) (h : (Rows 128).Slices (fun _ => 0) (Rows K)) (x : FVec Ideal (Rows 128) .f32)
    (b : Fin 2) (t : Fin 8192) (k : Fin K) :
    (Host.topK (Rows K) 2 (FloatOps.cmpfTotal (F := Ideal) (φ := .f32) .gt) x h).1 (ix3 b t k)
        = x (ix3 b t (descending (fun n => x (ix3 b t n)) (k.castLE hK)))
      ∧ (Host.topK (Rows K) 2 (FloatOps.cmpfTotal (F := Ideal) (φ := .f32) .gt) x h).2 (ix3 b t k)
        = BitVec.ofNat 32 (descending (fun n => x (ix3 b t n)) (k.castLE hK)).val := by
  have hi : (fun a : Fin 3 => (⟨0 + (ix3 b t k a).val, by
      match a with
      | ⟨0, _⟩ => show 0 + b.val < 2; omega
      | ⟨1, _⟩ => show 0 + t.val < 8192; omega
      | ⟨2, _⟩ => show 0 + k.val < 128; omega⟩ : Fin ((Rows 128).size a))) = ix3 b t (k.castLE hK) :=
    funext fun a => Fin.ext (by
      match a with
      | ⟨0, _⟩ => exact Nat.zero_add _
      | ⟨1, _⟩ => exact Nat.zero_add _
      | ⟨2, _⟩ => exact Nat.zero_add _)
  have hs := sort_at x (fun i => if hd : 2 < (Rows 128).rank then iotaInDim (Rows 128) 32 ⟨2, hd⟩ i else 0#32) b t (k.castLE hK)
  rw [← hi] at hs
  exact ⟨hs.1, hs.2⟩

end Cert.KernelIdeal.Own

end
-- ==== Proof.PreRead.lean ====
/-
  What the precondition says, read at an index: the five arrays the result depends on hold reals, and on every row of block
  sixteen or later the seventeen largest raw scores shown are strictly descending.
-/
module

public import proofs.«01_k».proof.Proof.Gen.Pre_finite_untied
public import proofs.«01_k».proof.Proof.Words
public import proofs.«01_k».proof.Proof.TopK

@[expose] public section

set_option maxRecDepth 16384

noncomputable section

namespace Cert.KernelIdeal.Own.Pre

open Idealize.ShloMosaic Idealize.ShloMosaic.TcCoe Cert.Pre_finite_untied Cert.Pre_finite_untied.Gen

/-! ## Finiteness -/

/-- The test that an entry's magnitude is below +∞, as the words compute it. -/
theorem real_of_test (x : EReal) (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have h' : max x (-x) < ⊤ := by
    change BitVec.ofBool (decide (max x (-x) < ⊤)) = 1#1 at h
    by_contra hn
    rw [decide_eq_false hn] at h
    exact absurd h (by decide)
  rw [max_lt_iff] at h'
  refine ⟨x.toReal, (EReal.coe_toReal h'.1.ne ?_).symm⟩
  rintro rfl
  exact absurd h'.2 (by simp)

variable (q k v : FVec Ideal S2x8192x768 .f32) (gc gs gw : FVec Ideal S2x8192 .f32)

/-- The queries are reals. -/
theorem queries_real (h : (fn (F := Ideal) q k v gc gs gw).1 = fun _ => 1#1) (i) : ∃ r : ℝ, q i = (r : EReal) :=
  real_of_test _ (congrFun h i)
/-- The keys are reals. -/
theorem keys_real (h : (fn (F := Ideal) q k v gc gs gw).2.1 = fun _ => 1#1) (i) : ∃ r : ℝ, k i = (r : EReal) :=
  real_of_test _ (congrFun h i)
/-- The values are reals. -/
theorem values_real (h : (fn (F := Ideal) q k v gc gs gw).2.2.1 = fun _ => 1#1) (i) : ∃ r : ℝ, v i = (r : EReal) :=
  real_of_test _ (congrFun h i)
/-- The compressed branch's gate is real. -/
theorem gate_cmp_real (h : (fn (F := Ideal) q k v gc gs gw).2.2.2.1 = fun _ => 1#1) (i) : ∃ r : ℝ, gc i = (r : EReal) :=
  real_of_test _ (congrFun h i)
/-- The selective branch's gate is real. -/
theorem gate_slc_real (h : (fn (F := Ideal) q k v gc gs gw).2.2.2.2.1 = fun _ => 1#1) (i) : ∃ r : ℝ, gs i = (r : EReal) :=
  real_of_test _ (congrFun h i)

/-! ## The raw scores -/

/-- The mean keys. -/
def means : FVec Ideal S2x128x768 .f32 :=
  Host.divf (Host.reduceAdd (shapeCast S2x128x64x768 k shapeCasts_S2x8192x768_S2x128x64x768) (constant S_ .f32 0x00000000#32) reducesTo_S2x128x64x768_S2x128x768_d2 h_S_)
    (broadcastInDim S2x128x768 ![] bcast_S_S2x128x768 (constant S_ .f32 0x42800000#32))

/-- The raw scores with the later blocks hidden. -/
def hiddenRaw (r : FVec Ideal S2x8192x128 .f32) : FVec Ideal S2x8192x128 .f32 :=
  fn_where_0 (F := Ideal)
    (broadcastInDim S1x8192x128 ![1, 2] bcast_S8192x128_S1x8192x128_1_2
      (cmpi .slt (broadcastInDim S8192x128 ![0, 1] bcast_S8192x1_S8192x128_0_1
          (broadcastInDim S8192x1 ![0] bcast_S8192_S8192x1_0 (fn_floor_divide (F := Ideal) (iotaInDim S8192 32 0) (constantI S_ 32 64#32))))
        (broadcastInDim S8192x128 ![0, 1] bcast_S1x128_S8192x128_0_1 (broadcastInDim S1x128 ![1] bcast_S128_S1x128_1 (iotaInDim S128 32 0)))))
    (constant S_ .f32 0xFF800000#32) r

/-- The raw scores. -/
def raw (kk : FVec Ideal S2x128x768 .f32) : FVec Ideal S2x8192x128 .f32 :=
  Host.dotGeneral dot_S2x8192x768_S2x128x768_S2x8192x128_2_2_1_1_0_0 none q kk

/-- The seventeen largest. -/
def largest : FVec Ideal S2x8192x17 .f32 :=
  (Host.topK S2x8192x17 2 (FloatOps.cmpfTotal .gt) (hiddenRaw (raw q (means k))) sliceFits_S2x8192x128_S2x8192x17).1

/-- The test's last component is these steps. -/
theorem untied_eq : (fn (F := Ideal) q k v gc gs gw).2.2.2.2.2
    = ori (broadcastInDim S2x8192x16 ![0, 1, 2] bcast_S1x8192x1_S2x8192x16_0_1_2
        (broadcastInDim S1x8192x1 ![1] bcast_S8192_S1x8192x1_1
          (cmpi .slt (fn_floor_divide (F := Ideal) (iotaInDim S8192 32 0) (constantI S_ 32 64#32)) (broadcastInDim S8192 ![] bcast_S_S8192 (constantI S_ 32 16#32)))))
      (cmpf .ogt (extractStridedSlice S2x8192x16 ![0, 0, 0] (largest q k) slices_S2x8192x17_S2x8192x16_0_0_0)
        (extractStridedSlice S2x8192x16 ![0, 0, 1] (largest q k) slices_S2x8192x17_S2x8192x16_0_0_1)) := rfl

/-- A block mean of the keys, as the precondition computes it. -/
theorem means_apply (b : Fin 2) (n : Fin 128) (d : Fin 768) :
    means k (ix3 b n d) = Ideal.div (∑ j : Fin 64, k (ix3 b (⟨n.val * 64 + j.val, by omega⟩ : Fin 8192) d)) ((64 : ℝ) : EReal) := by
  pointwise [means]
  rw [sixtyFour]

/-- A raw score: the product of a query and a block mean. -/
theorem raw_apply (kk : FVec Ideal S2x128x768 .f32) (b : Fin 2) (t : Fin 8192) (n : Fin 128) :
    raw q kk (ix3 b t n) = ∑ d : Fin 768, q (ix3 b t d) * kk (ix3 b n d) := by
  pointwise [raw]

/-- A raw score with the later blocks at minus infinity. -/
theorem hiddenRaw_apply (r : FVec Ideal S2x8192x128 .f32) (b : Fin 2) (t : Fin 8192) (n : Fin 128) :
    hiddenRaw r (ix3 b t n) = if n.val ≤ t.val / 64 then r (ix3 b t n) else ⊥ := by
  rw [← negInf, ← select_hidden n.val t.val n.isLt t.isLt]
  pointwise [hiddenRaw, fn_where_0, fn_floor_divide, fn_where]
  rfl

/-- A row of raw scores with the later blocks hidden. -/
def rawRow (b : Fin 2) (t : Fin 8192) (n : Fin 128) : EReal :=
  if n.val ≤ t.val / 64 then ∑ d : Fin 768, q (ix3 b t d) * means k (ix3 b n d) else ⊥

/-- The seventeen largest: the entries at the first seventeen places of the descending arrangement. -/
theorem largest_apply (b : Fin 2) (t : Fin 8192) (i : Fin 17) :
    largest q k (ix3 b t i) = rawRow q k b t (descending (rawRow q k b t) (i.castLE (by norm_num))) := by
  have h := (topK_at (K := 17) (by norm_num) sliceFits_S2x8192x128_S2x8192x17 (hiddenRaw (raw q (means k))) b t i).1
  have hrow : (fun n => hiddenRaw (raw q (means k)) (ix3 b t n)) = rawRow q k b t := by
    funext n
    rw [hiddenRaw_apply, raw_apply]
    rfl
  rw [hrow] at h
  exact h.trans (congrFun hrow _)

/-- Where a disjunction holds and its left part does not, its right part does. -/
theorem right_of_or {s : Shape} (x y : IVec s 1) (i : s.Idx) (h : ori x y i = 1#1) (hx : x i = 0#1) : y i = 1#1 := by
  have h' : x i ||| y i = 1#1 := h
  rw [hx, BitVec.zero_or] at h'
  exact h'

/-- Where the words' comparison holds, so does the numbers'. -/
theorem lt_of_ogt {s : Shape} (x y : FVec Ideal s .f32) (i : s.Idx) (h : cmpf .ogt x y i = 1#1) : y i < x i := by
  have h' : BitVec.ofBool (decide (y i < x i)) = 1#1 := h
  by_contra hn
  rw [decide_eq_false hn] at h'
  exact absurd h' (by decide)

/-- On the rows of block sixteen and later the seventeen largest raw scores shown strictly descend. -/
theorem untied (h : (fn (F := Ideal) q k v gc gs gw).2.2.2.2.2 = fun _ => 1#1) (b : Fin 2) (t : Fin 8192) (ht : 16 ≤ t.val / 64) (i : Fin 16) :
    rawRow q k b t (descending (rawRow q k b t) ⟨i.val + 1, by omega⟩) < rawRow q k b t (descending (rawRow q k b t) ⟨i.val, by omega⟩) := by
  rw [untied_eq] at h
  have hi := congrFun h (ix3 b t i)
  have e0 : extractStridedSlice S2x8192x16 ![0, 0, 0] (largest q k) slices_S2x8192x17_S2x8192x16_0_0_0 (ix3 b t i) = largest q k (ix3 b t (⟨i.val, by omega⟩ : Fin 17)) := by
    pointwise
  have e1 : extractStridedSlice S2x8192x16 ![0, 0, 1] (largest q k) slices_S2x8192x17_S2x8192x16_0_0_1 (ix3 b t i) = largest q k (ix3 b t (⟨i.val + 1, by omega⟩ : Fin 17)) := by
    pointwise
    exact congrArg (fun j => largest q k (ix3 b t j)) (Fin.ext (Nat.add_comm _ _))
  have eb : (broadcastInDim S2x8192x16 ![0, 1, 2] bcast_S1x8192x1_S2x8192x16_0_1_2
        (broadcastInDim S1x8192x1 ![1] bcast_S8192_S1x8192x1_1
          (cmpi .slt (fn_floor_divide (F := Ideal) (iotaInDim S8192 32 0) (constantI S_ 32 64#32)) (broadcastInDim S8192 ![] bcast_S_S8192 (constantI S_ 32 16#32))))) (ix3 b t i)
      = IntOp.cmpi .slt (hostBlockWord (BitVec.ofNat 32 t.val)) 16#32 := by
    pointwise [fn_floor_divide, fn_where]
    rfl
  rw [early_block t.val t.isLt, decide_eq_false (by omega)] at eb
  have hlt := lt_of_ogt _ _ _ (right_of_or _ _ _ hi eb)
  rw [e0, e1, largest_apply, largest_apply] at hlt
  exact hlt

end Cert.KernelIdeal.Own.Pre

end
-- ==== Proof.Equation.lean ====
/-
  Under the precondition, the kernel's result and the reference's agree at every index.
-/
module

public import proofs.«01_k».proof.Defs
public import proofs.«01_k».proof.Proof.Carried
public import proofs.«01_k».proof.Proof.RowSum
public import proofs.«01_k».proof.Proof.RefValue
public import proofs.«01_k».proof.Proof.PreRead

@[expose] public section

noncomputable section

namespace Cert.KernelIdeal.Own

open Idealize.ShloMosaic Idealize.ShloMosaic.TcCoe

/-! ## Scaling keeps the order of scores -/

variable (ρ : Fin 128 → ℝ) (a : ℕ) {r : ℝ} (hr : 0 < r)

include hr in
/-- Scaling keeps strict order among scores, hidden ones included. -/
theorem hid_scale_lt (n n' : Fin 128) (h : hid ρ a n < hid ρ a n') : hid (fun n => ρ n * r) a n < hid (fun n => ρ n * r) a n' := by
  unfold hid at h ⊢
  by_cases h' : n'.val ≤ a
  · rw [if_pos h'] at h ⊢
    by_cases hn : n.val ≤ a
    · rw [if_pos hn] at h ⊢
      exact EReal.coe_lt_coe_iff.mpr (mul_lt_mul_of_pos_right (EReal.coe_lt_coe_iff.mp h) hr)
    · rw [if_neg hn]; exact EReal.bot_lt_coe _
  · rw [if_neg h'] at h
    exact absurd h not_lt_bot

include hr in
/-- Scaling keeps order among scores, hidden ones included. -/
theorem hid_scale_le (n n' : Fin 128) (h : hid ρ a n ≤ hid ρ a n') : hid (fun n => ρ n * r) a n ≤ hid (fun n => ρ n * r) a n' := by
  unfold hid at h ⊢
  by_cases hn : n.val ≤ a
  · rw [if_pos hn] at h ⊢
    by_cases h' : n'.val ≤ a
    · rw [if_pos h'] at h ⊢
      exact EReal.coe_le_coe_iff.mpr (mul_le_mul_of_nonneg_right (EReal.coe_le_coe_iff.mp h) hr.le)
    · rw [if_neg h'] at h
      exact absurd h (not_le.mpr (EReal.bot_lt_coe _))
  · rw [if_neg hn]; exact bot_le

/-! ## A query's row -/

/-- A mean of reals is a real. -/
theorem meanOf_real (x : Vec Ideal Cert.KernelIdeal.S2x8192x768 .f32) (hx : ∀ i, ∃ y : ℝ, x i = (y : EReal)) (b : Fin 2) (n : Fin 128) (d : Fin 768) :
    ∃ y : ℝ, meanOf x b n d = (y : EReal) := by
  choose y hy using hx
  unfold meanOf
  simp only [hy]
  rw [coe_sum, Ideal.div_coe (by norm_num : (64 : ℝ) ≠ 0), ← EReal.coe_mul]
  exact ⟨_, rfl⟩

/-- The scale. -/
abbrev scale : ℝ := (Real.sqrt 768)⁻¹

/-- The scale is positive. -/
theorem scale_pos : 0 < scale := inv_pos.mpr (Real.sqrt_pos.mpr (by norm_num))

/-- On a row whose scores are the reals `u`, the entries the reference's selection returns: the first sixteen of one
    descending arrangement, with their positions. -/
theorem selection (s : FVec Ideal Cert.ReferenceIdeal.S2x8192x128 .f32) (b : Fin 2) (t : Fin 8192) (u : Fin 128 → ℝ)
    (hs : ∀ n, s (ix3 b t n) = ((u n : ℝ) : EReal)) :
    ∃ S : Fin 128 → Fin 128, Function.Injective S ∧ Function.Surjective S
      ∧ (∀ i j, i < j → shown u (t.val / 64) (S j) ≤ shown u (t.val / 64) (S i))
      ∧ ∀ k : Fin 16, (Ref.largest (Ref.normed (Ref.shifted (Ref.hidden s)))).1 (ix3 b t k)
            = ((shown u (t.val / 64) (S (k.castLE (by norm_num))) / ∑ n, shown u (t.val / 64) n : ℝ) : EReal)
        ∧ (Ref.largest (Ref.normed (Ref.shifted (Ref.hidden s)))).2 (ix3 b t k) = BitVec.ofNat 32 (S (k.castLE (by norm_num))).val := by
  have hh : ∀ n, Ref.hidden s (ix3 b t n) = hid u (t.val / 64) n := by
    intro n
    rw [Ref.hidden_apply, hs]
    rfl
  have hp : ∀ n, Ref.normed (Ref.shifted (Ref.hidden s)) (ix3 b t n) = ((shown u (t.val / 64) n / ∑ k, shown u (t.val / 64) k : ℝ) : EReal) := by
    intro n
    rw [Ref.normed_apply]
    simp only [Ref.shifted_apply, hh]
    exact softmax_hid u _ n
  refine ⟨descending (fun n => Ref.normed (Ref.shifted (Ref.hidden s)) (ix3 b t n)), descending_injective _, descending_surjective _, ?_, ?_⟩
  · intro i j hij
    have h := descending_le (fun n => Ref.normed (Ref.shifted (Ref.hidden s)) (ix3 b t n)) i j hij
    rw [hp, hp] at h
    exact (div_le_div_iff_of_pos_right (shown_sum_pos u _)).mp (EReal.coe_le_coe_iff.mp h)
  · intro k
    have h := topK_at (K := 16) (by norm_num) Cert.ReferenceIdeal.Gen.sliceFits_S2x8192x128_S2x8192x16 (Ref.normed (Ref.shifted (Ref.hidden s))) b t k
    exact ⟨h.1.trans (hp _), h.2⟩

/-- The unmasked softmax of a row of real scores. -/
theorem softmax_all (s : FVec Ideal Cert.ReferenceIdeal.S2x8192x128 .f32) (b : Fin 2) (t : Fin 8192) (u : Fin 128 → ℝ)
    (hs : ∀ n, s (ix3 b t n) = ((u n : ℝ) : EReal)) (n : Fin 128) :
    Ref.normed (Ref.shifted s) (ix3 b t n) = ((Real.exp (u n) / ∑ k, Real.exp (u k) : ℝ) : EReal) := by
  have hh : ∀ n : Fin 128, s (ix3 b t n) = hid u 128 n := fun n => (hs n).trans (if_pos (by omega)).symm
  have he : ∀ n : Fin 128, shown u 128 n = Real.exp (u n) := fun n => if_pos (by omega)
  rw [Ref.normed_apply]
  simp only [Ref.shifted_apply, hh]
  rw [← he n]
  simp only [← he]
  exact softmax_hid u 128 n

variable (q k v : FVec Ideal Cert.KernelIdeal.S2x8192x768 .f32) (gc gs gw : FVec Ideal Cert.KernelIdeal.S2x8192 .f32)

/-- The two results at an index, however many rows from the query's block on the kernel's tile keeps. -/
theorem results_eq
    (hq : (Cert.Pre_finite_untied.fn (F := Ideal) q k v gc gs gw).1 = fun _ => 1#1)
    (hk : (Cert.Pre_finite_untied.fn (F := Ideal) q k v gc gs gw).2.1 = fun _ => 1#1)
    (hv : (Cert.Pre_finite_untied.fn (F := Ideal) q k v gc gs gw).2.2.1 = fun _ => 1#1)
    (hgc : (Cert.Pre_finite_untied.fn (F := Ideal) q k v gc gs gw).2.2.2.1 = fun _ => 1#1)
    (hgs : (Cert.Pre_finite_untied.fn (F := Ideal) q k v gc gs gw).2.2.2.2.1 = fun _ => 1#1)
    (hun : (Cert.Pre_finite_untied.fn (F := Ideal) q k v gc gs gw).2.2.2.2.2 = fun _ => 1#1)
    (b : Fin 2) (t : Fin 8192) (d : Fin 768) (R : ℕ) (hR : R ≤ 128) (haR : t.val / 64 < R) :
    columnOut R hR (t.val / 64) (fun n => Ideal.exp (∑ d' : Fin 768, ((scale : ℝ) : EReal) * meanOf k b n d' * q (ix3 b t d')))
        (gc (ix2 b t)) (gs (ix2 b t)) (meanOf v b · d)
      = Ref.refOut q k v gc gs (ix3 b t d) := by
  choose q' hq' using Pre.queries_real q k v gc gs gw hq
  choose κ hκ using meanOf_real k (Pre.keys_real q k v gc gs gw hk) b
  choose ν hν using meanOf_real v (Pre.values_real q k v gc gs gw hv) b
  obtain ⟨g, hg⟩ := Pre.gate_cmp_real q k v gc gs gw hgc (ix2 b t)
  obtain ⟨h, hh⟩ := Pre.gate_slc_real q k v gc gs gw hgs (ix2 b t)
  -- the raw score of block `n`, and the scaled one
  let ρ : Fin 128 → ℝ := fun n => ∑ d' : Fin 768, q' (ix3 b t d') * κ n d'
  let u : Fin 128 → ℝ := fun n => ρ n * scale
  have hraw : ∀ n, ∑ d' : Fin 768, q (ix3 b t d') * meanOf k b n d' = ((ρ n : ℝ) : EReal) := by
    intro n
    simp only [hq', hκ, ← EReal.coe_mul]
    exact coe_sum _
  have hE : ∀ n, ∑ d' : Fin 768, ((scale : ℝ) : EReal) * meanOf k b n d' * q (ix3 b t d') = ((u n : ℝ) : EReal) := by
    intro n
    simp only [hq', hκ, ← EReal.coe_mul]
    rw [coe_sum]
    congr 1
    show _ = (∑ d' : Fin 768, q' (ix3 b t d') * κ n d') * scale
    rw [Finset.sum_mul]
    exact Finset.sum_congr rfl fun d' _ => by ring
  have hmk : ∀ n d', Ref.means k (ix3 b n d') = meanOf k b n d' := fun n d' => Ref.means_apply k b n d'
  have hmv : ∀ n d', Ref.means v (ix3 b n d') = ((ν n d' : ℝ) : EReal) := fun n d' => (Ref.means_apply v b n d').trans (hν n d')
  have hs : ∀ n, Ref.scores q (Ref.means k) (ix3 b t n) = ((u n : ℝ) : EReal) := by
    intro n
    rw [Ref.scores_apply]
    simp only [hmk]
    rw [hraw, ← EReal.coe_mul]
  obtain ⟨S, hinj, hsurj, hdesc, hsel⟩ := selection (Ref.scores q (Ref.means k)) b t u hs
  -- the entries kept
  have hkept : ∀ n : Fin R, (if threshold (((-1 : ℝ) : ℝ) : EReal) (seen u (t.val / 64) hR) ≤ seen u (t.val / 64) hR n then seen u (t.val / 64) hR n else 0)
      = ((if n.castLE hR ∈ first16 S then shown u (t.val / 64) (n.castLE hR) else 0 : ℝ) : EReal) := by
    intro n
    by_cases ha : t.val / 64 < 16
    · exact kept_of_few u _ hR S hinj hsurj hdesc ha n
    · have hrow : Pre.rawRow q k b t = hid ρ (t.val / 64) := by
        funext n
        unfold Pre.rawRow hid
        have e : ∀ d', Pre.means k (ix3 b n d') = meanOf k b n d' := fun d' => Pre.means_apply k b n d'
        simp only [e]
        rw [hraw]
      have hstrict := Pre.untied q k v gc gs gw hun b t (not_lt.mp ha)
      rw [hrow] at hstrict
      exact kept_of_untied u _ hR S hinj hsurj hdesc haR (descending (hid ρ (t.val / 64))) (descending_surjective _)
        (fun i j hij => hid_scale_le ρ _ scale_pos _ _ (descending_le (hid ρ (t.val / 64)) i j hij))
        (fun i => hid_scale_lt ρ _ scale_pos _ _ (hstrict i)) n
  have hcol := column_eq u (t.val / 64) hR haR S hinj g h (fun n => ν n d) hkept
  simp only [hE, hν, hg, hh]
  rw [hcol, Ref.refOut_apply, Ref.coarse_apply, Ref.selective_apply, hg, hh]
  simp only [softmax_all _ b t u hs, hmv]
  refine congrArg (_ + ·) (congrArg (· * _) (Finset.sum_congr rfl fun i _ => ?_))
  rw [(hsel i).1, Ref.fetched_apply _ _ b t i d _ (hsel i).2, hmv]

/-- The reference's result of the kernel's arguments. -/
def refOf (m : (ℓ : Loc Cert.KernelIdeal.nD Cert.KernelIdeal.τ Cert.KernelIdeal.sig) → Buf (Elt Ideal) ℓ) (c : Dev Cert.KernelIdeal.nD) :
    FVec Ideal Cert.KernelIdeal.S2x8192x768 .f32 :=
  Ref.refOut (m (c.tc.loc Cert.KernelIdeal.main_arg0)) (m (c.tc.loc Cert.KernelIdeal.main_arg1))
    (m (c.tc.loc Cert.KernelIdeal.main_arg2)) (m (c.tc.loc Cert.KernelIdeal.main_arg3)) (m (c.tc.loc Cert.KernelIdeal.main_arg4))

/-- Under the precondition, the kernel's result array is the reference's result of the kernel's arguments. -/
theorem resultOf_eq (m : (ℓ : Loc Cert.KernelIdeal.nD Cert.KernelIdeal.τ Cert.KernelIdeal.sig) → Buf (Elt Ideal) ℓ) (c : Dev Cert.KernelIdeal.nD)
    (hpre : Cert.Pre_KernelIdeal_finite_untied m) :
    resultOf m c = refOf m c := by
  obtain ⟨hq, hk, hv, hgc, hgs, hun⟩ := hpre c
  funext (i : Cert.KernelIdeal.S2x8192x768.Idx)
  obtain ⟨b, t, d, rfl⟩ : ∃ (b : Fin 2) (t : Fin 8192) (d : Fin 768), i = ix3 b t d := ⟨i 0, i 1, i 2, eq_ix3 i⟩
  obtain ⟨R, hR, haR, e⟩ := resultOf_apply m c b t d
  exact e.trans (results_eq _ _ _ _ _ _ hq hk hv hgc hgs hun b t d R hR haR)

end Cert.KernelIdeal.Own

end
-- ==== Proof.KernelFrame.lean ====
/-
  The frame of the kernel as written, from the frame of the idealized kernel.

  The idealized kernel's frame holds at every reading of its floats and of its named constant. With the constant read as the
  literal that it names, the two programs are the same definitions (`body_same`, `tables_same`, `main_same`), so that the
  frame carries over (`frame_kernel`).
-/
module

public import proofs.«01_k».proof.Defs
public import proofs.«01_k».proof.Proof.Run
public import proofs.«01_k».proof.Proof.Gen.Kernel

@[expose] public section

set_option maxRecDepth 16384

noncomputable section

namespace Cert.KernelIdeal.Own

open Idealize.ShloMosaic Idealize.ShloMosaic.TcCoe Idealize.SL.Sem

variable {F : FTy → Type} [FloatOps F]

/-- The reading of a named constant as its literal. -/
abbrev literal : Named F := ⟨fun _ _ {_} bits => Scalar.ofBits _ bits⟩

attribute [local instance] literal

/-- With the constant read as its literal, the two kernel bodies are the same. -/
theorem body_same : @Cert.Kernel.cc0__fused_kernel F _ _ = @Cert.KernelIdeal.cc0__fused_kernel F _ _ _ := by
  unfold Cert.Kernel.cc0__fused_kernel Cert.KernelIdeal.cc0__fused_kernel
  with_unfolding_all rfl

/-- So are the tables of the kernel bodies. -/
theorem bodies_same : @Cert.Kernel.defs₀ F _ _ = @Cert.KernelIdeal.defs₀ F _ _ _ := by
  unfold Cert.Kernel.defs₀ Cert.KernelIdeal.defs₀
  refine congrArg Defs.onTc ?_
  funext l p
  match l, p with
  | ⟨0, _⟩, (t, s) =>
    rw [body_same]
    with_unfolding_all rfl

/-- So are the tables with the pipelines' labels. -/
theorem tables_same : @Cert.Kernel.defs F _ _ = @Cert.KernelIdeal.defs F _ _ _ := by
  unfold Cert.Kernel.defs Cert.KernelIdeal.defs
  exact congrArg (Pipeline.defs Cert.KernelIdeal.pcfgs) bodies_same

/-- So are the main programs. -/
theorem main_same : @Cert.Kernel.main F _ = @Cert.KernelIdeal.main F _ := by with_unfolding_all rfl

/-- The kernel runs to its end, leaves its arguments unchanged and every counter at zero. -/
theorem frame_kernel : Cert.quiescent_Kernel := fun m ρ _ => by
  rw [tables_same, main_same]
  exact frame (F := Bits) m ρ

end Cert.KernelIdeal.Own

end
-- ==== Proof.lean ====
/-
  The certificate: every claim of the definitions file, put together from the launch's value and frame, the reference's
  value, and the equation of the two under the precondition.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_untied
public import proofs.«01_k».proof.Proof.Equation
public import proofs.«01_k».proof.Proof.KernelFrame
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run ends with the arguments unchanged and every counter at zero, from any memory. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the idealized kernel and reference end with the same result array. -/
theorem algebraic : Cert.algebraic_KernelIdeal_ReferenceIdeal_pre_finite_untied := by
  intro m g m' g' hpre hargs
  refine ⟨fun c => Cert.KernelIdeal.Own.resultOf m c, Cert.KernelIdeal.Own.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, -⟩ := hargs c
  refine (Cert.KernelIdeal.Own.Ref.result_eq m' c).trans ?_
  rw [e0, e1, e2, e3, e4]
  exact (Cert.KernelIdeal.Own.resultOf_eq m c hpre).symm

/-- Every claim of the certificate. -/
theorem claim : Cert.Claim :=
  ⟨Cert.Kernel.Gen.facts, Cert.KernelIdeal.Gen.facts, Cert.ReferenceIdeal.Gen.facts, Cert.Pre_finite_untied.Gen.facts,
    Cert.KernelIdeal.Own.frame_kernel,
    fun m ρ _ => Cert.KernelIdeal.Own.frame m ρ,
    fun m ρ _ => Cert.KernelIdeal.Own.frame m ρ,
    frame_reference,
    fun m ρ _ => frame_reference m ρ trivial,
    IdealRules.named_const.statement Cert.KernelIdeal.κ "inv_sqrt_d" .f32 0x3D13CD3A#32 (((Real.sqrt 768)⁻¹ : ℝ) : EReal) rfl,
    algebraic⟩

end Cert.Proof

end
